-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 2] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![512]⟩ ⟨1, ![1024]⟩ (Layout.meshBlock [2, 2, 2] ![[2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = Layout.blockN ⟨2, ![512, 512]⟩ ⟨2, ![1024, 512]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v51) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512 : Shape := ⟨1, ![512]⟩
abbrev S2x512x1024 : Shape := ⟨3, ![2, 512, 1024]⟩
abbrev S2x1024x512 : Shape := ⟨3, ![2, 1024, 512]⟩
abbrev S_ : Shape := ⟨0, ![]⟩
abbrev S128x512 : Shape := ⟨2, ![128, 512]⟩
abbrev S128 : Shape := ⟨1, ![128]⟩
abbrev S17 : Shape := ⟨1, ![17]⟩
abbrev S1 : Shape := ⟨1, ![1]⟩
abbrev S64x512 : Shape := ⟨2, ![64, 512]⟩
abbrev S128x1 : Shape := ⟨2, ![128, 1]⟩
abbrev S1x512x1024 : Shape := ⟨3, ![1, 512, 1024]⟩
abbrev S512x1024 : Shape := ⟨2, ![512, 1024]⟩
abbrev S128x1024 : Shape := ⟨2, ![128, 1024]⟩
abbrev S1x1024x512 : Shape := ⟨3, ![1, 1024, 512]⟩
abbrev S1024x512 : Shape := ⟨2, ![1024, 512]⟩
abbrev S64 : Shape := ⟨1, ![64]⟩
abbrev S64x1 : Shape := ⟨2, ![64, 1]⟩
abbrev S64x1024 : Shape := ⟨2, ![64, 1024]⟩

abbrev nBuf : Space → Nat
  | .hbm => 29
  | .vmem => 10
  | .smem => 0
  | _ => 0

abbrev bufTy : (tb : Table) → Fin (tcTables nBuf tb) → BufTy
  | .hbm, ⟨0, _⟩ => ⟨S512x512, .bf16⟩
  | .hbm, ⟨1, _⟩ => ⟨S512, .i32⟩
  | .hbm, ⟨2, _⟩ => ⟨S2x512x1024, .bf16⟩
  | .hbm, ⟨3, _⟩ => ⟨S2x1024x512, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S128x512, .bf16⟩
  | .hbm, ⟨28, _⟩ => ⟨S512x512, .f32⟩
  | .local _ .vmem, ⟨0, _⟩ => ⟨S128x512, .bf16⟩
  | .local _ .vmem, ⟨1, _⟩ => ⟨S512, .i32⟩
  | .local _ .vmem, ⟨2, _⟩ => ⟨S2x512x1024, .bf16⟩
  | .local _ .vmem, ⟨3, _⟩ => ⟨S2x1024x512, .bf16⟩
  | .local _ .vmem, ⟨4, _⟩ => ⟨S128x512, .bf16⟩
  | .local _ .vmem, ⟨5, _⟩ => ⟨S128, .i32⟩
  | .local _ .vmem, ⟨6, _⟩ => ⟨S128x512, .bf16⟩
  | .local _ .vmem, ⟨7, _⟩ => ⟨S128x512, .bf16⟩
  | .local _ .vmem, ⟨8, _⟩ => ⟨S512x512, .bf16⟩
  | .local _ .vmem, ⟨9, _⟩ => ⟨S512x512, .f32⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_c_2 : Ref sig .tc := ⟨.hbm, 12, rfl⟩
abbrev main_c_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_4 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_c_6 : Ref sig .tc := ⟨.hbm, 23, rfl⟩
abbrev main_v13 : Ref sig .tc := ⟨.hbm, 24, rfl⟩
abbrev main_v14 : Ref sig .tc := ⟨.hbm, 25, rfl⟩
abbrev main_c_7 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v21 : BitVec 32 := Scalar.muli v5 c2_i32_12
  let v22 : BitVec 32 := Scalar.addi v20 v21
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_13 : BitVec 32 := 1#32
  let v23 : BitVec 32 := Scalar.muli v9 c1_i32_13
  let v24 : BitVec 32 := Scalar.addi v22 v23
  v24.toNat
def k0_dev2 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32_16 v25
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_17 : BitVec 32 := 2#32
  let v27 : BitVec 32 := Scalar.muli v10 c2_i32_17
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v29 : BitVec 32 := Scalar.muli v8 c1_i32_18
  let v30 : BitVec 32 := Scalar.addi v28 v29
  v30.toNat
def k0_dev3 (d0 : Dev nD) : Nat :=
  let c0_i32_21 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_20 : BitVec 32 := 4#32
  let v31 : BitVec 32 := Scalar.muli v11 c4_i32_20
  let v32 : BitVec 32 := Scalar.addi c0_i32_21 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v33 : BitVec 32 := Scalar.muli v5 c2_i32_22
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v35 : BitVec 32 := Scalar.muli v8 c1_i32_23
  let v36 : BitVec 32 := Scalar.addi v34 v35
  v36.toNat
def k0_dev4 (d0 : Dev nD) : Nat :=
  let c0_i32_26 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_25 : BitVec 32 := 4#32
  let v37 : BitVec 32 := Scalar.muli v12 c4_i32_25
  let v38 : BitVec 32 := Scalar.addi c0_i32_26 v37
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_27 : BitVec 32 := 2#32
  let v39 : BitVec 32 := Scalar.muli v13 c2_i32_27
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v41 : BitVec 32 := Scalar.muli v8 c1_i32_28
  let v42 : BitVec 32 := Scalar.addi v40 v41
  v42.toNat
def k0_dev5 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v43 : BitVec 32 := Scalar.muli v2 c4_i32_32
  let v44 : BitVec 32 := Scalar.addi c0_i32_33 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v45 : BitVec 32 := Scalar.muli v5 c2_i32_34
  let v46 : BitVec 32 := Scalar.addi v44 v45
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_35 : BitVec 32 := 1#32
  let v47 : BitVec 32 := Scalar.muli v9 c1_i32_35
  let v48 : BitVec 32 := Scalar.addi v46 v47
  v48.toNat
def k0_dev6 (d0 : Dev nD) : Nat :=
  let c0_i32_42 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_41 : BitVec 32 := 4#32
  let v55 : BitVec 32 := Scalar.muli v2 c4_i32_41
  let v56 : BitVec 32 := Scalar.addi c0_i32_42 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v57 : BitVec 32 := Scalar.muli v5 c2_i32_43
  let v58 : BitVec 32 := Scalar.addi v56 v57
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_44 : BitVec 32 := 1#32
  let v59 : BitVec 32 := Scalar.muli v9 c1_i32_44
  let v60 : BitVec 32 := Scalar.addi v58 v59
  v60.toNat
def k0_off1 (d0 : Dev nD) : Fin 1 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let c128_i32_9 : BitVec 32 := 128#32
  let v17 : BitVec 32 := Scalar.muli v15 c128_i32_9
  ![v17.toNat]
def k0_dev7 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v67 : BitVec 32 := Scalar.muli v2 c4_i32_49
  let v68 : BitVec 32 := Scalar.addi c0_i32_50 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v69 : BitVec 32 := Scalar.muli v5 c2_i32_51
  let v70 : BitVec 32 := Scalar.addi v68 v69
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_52 : BitVec 32 := 1#32
  let v71 : BitVec 32 := Scalar.muli v9 c1_i32_52
  let v72 : BitVec 32 := Scalar.addi v70 v71
  v72.toNat
def k0_off2 (d0 : Dev nD) : Fin 1 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let c128_i32_9 : BitVec 32 := 128#32
  let v17 : BitVec 32 := Scalar.muli v15 c128_i32_9
  let v81 : Index := Scalar.indexCast v17
  ![v81.toNat]
def k0_off3 (d0 : Dev nD) : Fin 2 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let c128_i32 : BitVec 32 := 128#32
  let v16 : BitVec 32 := Scalar.muli v15 c128_i32
  let v121 : Index := Scalar.indexCast v16
  let c0_76 : Index := 0#32
  ![v121.toNat, 0]
def k0_dev8 (d0 : Dev nD) : Nat :=
  let c0_i32_132 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_131 : BitVec 32 := 4#32
  let v193 : BitVec 32 := Scalar.muli v2 c4_i32_131
  let v194 : BitVec 32 := Scalar.addi c0_i32_132 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_133 : BitVec 32 := 2#32
  let v195 : BitVec 32 := Scalar.muli v5 c2_i32_133
  let v196 : BitVec 32 := Scalar.addi v194 v195
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_134 : BitVec 32 := 1#32
  let v197 : BitVec 32 := Scalar.muli v9 c1_i32_134
  let v198 : BitVec 32 := Scalar.addi v196 v197
  v198.toNat
def k0_dev9 (d0 : Dev nD) : Nat :=
  let c0_i32_184 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_183 : BitVec 32 := 4#32
  let v261 : BitVec 32 := Scalar.muli v2 c4_i32_183
  let v262 : BitVec 32 := Scalar.addi c0_i32_184 v261
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_185 : BitVec 32 := 2#32
  let v263 : BitVec 32 := Scalar.muli v5 c2_i32_185
  let v264 : BitVec 32 := Scalar.addi v262 v263
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_186 : BitVec 32 := 1#32
  let v265 : BitVec 32 := Scalar.muli v9 c1_i32_186
  let v266 : BitVec 32 := Scalar.addi v264 v265
  v266.toNat
def k0_off4 (d0 : Dev nD) : Fin 2 → Nat :=
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.addi v14 v5
  let c128_i32 : BitVec 32 := 128#32
  let v16 : BitVec 32 := Scalar.muli v15 c128_i32
  let c0_i32_233 : BitVec 32 := 0#32
  ![v16.toNat, 0]
def k0_dev10 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v309 : BitVec 32 := Scalar.muli v2 c4_i32_229
  let v310 : BitVec 32 := Scalar.addi c0_i32_230 v309
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_231 : BitVec 32 := 2#32
  let v311 : BitVec 32 := Scalar.muli v10 c2_i32_231
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v313 : BitVec 32 := Scalar.muli v8 c1_i32_232
  let v314 : BitVec 32 := Scalar.addi v312 v313
  v314.toNat
def k0_dev11 (d0 : Dev nD) : Nat :=
  let c0_i32_236 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_235 : BitVec 32 := 4#32
  let v321 : BitVec 32 := Scalar.muli v11 c4_i32_235
  let v322 : BitVec 32 := Scalar.addi c0_i32_236 v321
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_237 : BitVec 32 := 2#32
  let v323 : BitVec 32 := Scalar.muli v5 c2_i32_237
  let v324 : BitVec 32 := Scalar.addi v322 v323
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_238 : BitVec 32 := 1#32
  let v325 : BitVec 32 := Scalar.muli v8 c1_i32_238
  let v326 : BitVec 32 := Scalar.addi v324 v325
  v326.toNat
def k0_dev12 (d0 : Dev nD) : Nat :=
  let c0_i32_242 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.subi c1_i32_6 v2
  let c4_i32_241 : BitVec 32 := 4#32
  let v333 : BitVec 32 := Scalar.muli v12 c4_i32_241
  let v334 : BitVec 32 := Scalar.addi c0_i32_242 v333
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.subi c1_i32_7 v5
  let c2_i32_243 : BitVec 32 := 2#32
  let v335 : BitVec 32 := Scalar.muli v13 c2_i32_243
  let v336 : BitVec 32 := Scalar.addi v334 v335
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_244 : BitVec 32 := 1#32
  let v337 : BitVec 32 := Scalar.muli v8 c1_i32_244
  let v338 : BitVec 32 := Scalar.addi v336 v337
  v338.toNat
abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S1024 : Shape := ⟨1, ![1024]⟩
abbrev S4x512x1024 : Shape := ⟨3, ![4, 512, 1024]⟩
abbrev S4x1024x512 : Shape := ⟨3, ![4, 1024, 512]⟩
abbrev S_ : Shape := ⟨0, ![]⟩
abbrev S1024x1 : Shape := ⟨2, ![1024, 1]⟩
abbrev S1x512x1024 : Shape := ⟨3, ![1, 512, 1024]⟩
abbrev S512x1024 : Shape := ⟨2, ![512, 1024]⟩
abbrev S1024x1024 : Shape := ⟨2, ![1024, 1024]⟩
abbrev S1x1024x512 : Shape := ⟨3, ![1, 1024, 512]⟩

abbrev nBuf : Space → Nat
  | .hbm => 69
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S1024, .i32⟩
  | .hbm, ⟨2, _⟩ => ⟨S4x512x1024, .bf16⟩
  | .hbm, ⟨3, _⟩ => ⟨S4x1024x512, .bf16⟩
  | .hbm, ⟨4, _⟩ => ⟨S1024x512, .f32⟩
  | .hbm, ⟨5, _⟩ => ⟨S4x512x1024, .f32⟩
  | .hbm, ⟨6, _⟩ => ⟨S4x1024x512, .f32⟩
  | .hbm, ⟨7, _⟩ => ⟨S_, .f32⟩
  | .hbm, ⟨8, _⟩ => ⟨S1024x512, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S1024x1, .i1⟩
  | .hbm, ⟨13, _⟩ => ⟨S1x512x1024, .f32⟩
  | .hbm, ⟨14, _⟩ => ⟨S512x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1x1024x512, .f32⟩
  | .hbm, ⟨20, _⟩ => ⟨S1024x512, .f32⟩
  | .hbm, ⟨21, _⟩ => ⟨S1024x512, .f32⟩
  | .hbm, ⟨22, _⟩ => ⟨S1024x512, .i1⟩
  | .hbm, ⟨23, _⟩ => ⟨S1024x512, .f32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S1024x1, .i1⟩
  | .hbm, ⟨28, _⟩ => ⟨S1x512x1024, .f32⟩
  | .hbm, ⟨29, _⟩ => ⟨S512x1024, .f32⟩
  | .hbm, ⟨30, _⟩ => ⟨S1024x1024, .f32⟩
  | .hbm, ⟨31, _⟩ => ⟨S_, .f32⟩
  | .hbm, ⟨32, _⟩ => ⟨S1024x1024, .f32⟩
  | .hbm, ⟨33, _⟩ => ⟨S1024x1024, .f32⟩
  | .hbm, ⟨34, _⟩ => ⟨S1x1024x512, .f32⟩
  | .hbm, ⟨35, _⟩ => ⟨S1024x512, .f32⟩
  | .hbm, ⟨36, _⟩ => ⟨S1024x512, .f32⟩
  | .hbm, ⟨37, _⟩ => ⟨S1024x512, .i1⟩
  | .hbm, ⟨38, _⟩ => ⟨S1024x512, .f32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S1024x1, .i1⟩
  | .hbm, ⟨43, _⟩ => ⟨S1x512x1024, .f32⟩
  | .hbm, ⟨44, _⟩ => ⟨S512x1024, .f32⟩
  | .hbm, ⟨45, _⟩ => ⟨S1024x1024, .f32⟩
  | .hbm, ⟨46, _⟩ => ⟨S_, .f32⟩
  | .hbm, ⟨47, _⟩ => ⟨S1024x1024, .f32⟩
  | .hbm, ⟨48, _⟩ => ⟨S1024x1024, .f32⟩
  | .hbm, ⟨49, _⟩ => ⟨S1x1024x512, .f32⟩
  | .hbm, ⟨50, _⟩ => ⟨S1024x512, .f32⟩
  | .hbm, ⟨51, _⟩ => ⟨S1024x512, .f32⟩
  | .hbm, ⟨52, _⟩ => ⟨S1024x512, .i1⟩
  | .hbm, ⟨53, _⟩ => ⟨S1024x512, .f32⟩
  | .hbm, ⟨54, _⟩ => ⟨S_, .i32⟩
  | .hbm, ⟨55, _⟩ => ⟨S1024, .i32⟩
  | .hbm, ⟨56, _⟩ => ⟨S1024, .i1⟩
  | .hbm, ⟨57, _⟩ => ⟨S1024x1, .i1⟩
  | .hbm, ⟨58, _⟩ => ⟨S1x512x1024, .f32⟩
  | .hbm, ⟨59, _⟩ => ⟨S512x1024, .f32⟩
  | .hbm, ⟨60, _⟩ => ⟨S1024x1024, .f32⟩
  | .hbm, ⟨61, _⟩ => ⟨S_, .f32⟩
  | .hbm, ⟨62, _⟩ => ⟨S1024x1024, .f32⟩
  | .hbm, ⟨63, _⟩ => ⟨S1024x1024, .f32⟩
  | .hbm, ⟨64, _⟩ => ⟨S1x1024x512, .f32⟩
  | .hbm, ⟨65, _⟩ => ⟨S1024x512, .f32⟩
  | .hbm, ⟨66, _⟩ => ⟨S1024x512, .f32⟩
  | .hbm, ⟨67, _⟩ => ⟨S1024x512, .i1⟩
  | .hbm, ⟨68, _⟩ => ⟨S1024x512, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call1_v0 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_call2_v0 : Ref sig .tc := ⟨.hbm, 52, rfl⟩
abbrev main_v39 : Ref sig .tc := ⟨.hbm, 53, rfl⟩
abbrev main_c_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_call3_v0 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Proof.Mesh.lean ====
/-
# The mesh of eight devices, and the kernel's device and row arithmetic

Device `c` of the 2 × 2 × 2 mesh has the linear index `4 x + 2 y + z`. The kernel talks to four
partners of `c`, each found by flipping bits of the index, so each partner relation is an involution:

* `nb 0 c` : the other `z`, the same `x` and `y` — it holds the other half of the experts;
* `nb 1 c`, `nb 2 c`, `nb 3 c` : the same `z`, another quarter — `y`, `x`, or both flipped.

The quarter of the rows device `c` works on is `c / 2`. Here the kernel's own address computations
(`k0_devN`, `k0_offN`) are evaluated to these.
-/
module

public import proofs.«01_k».proof.Proof.Gen.KernelIdeal
public import proofs.«01_k».proof.Proof.Gen.KernelIdeal.Skeleton

@[expose] public section

noncomputable section

namespace Cert.Moe

open Cert.KernelIdeal Cert.KernelIdeal.Gen
open Idealize.ShloMosaic Idealize.ShloMosaic.TcCoe
open Idealize.SL Idealize.SL.Sem

/-- Partner `k` of a device: the index with bit 0, bit 1, bit 2, or bits 1 and 2 flipped. -/
def nb (k : Fin 4) (c : Dev nD) : Dev nD :=
  ⟨(match k with | 0 => c.val ^^^ 1 | 1 => c.val ^^^ 2 | 2 => c.val ^^^ 4 | 3 => c.val ^^^ 6) % 8, Nat.mod_lt _ (by decide)⟩

/-- Each partner relation is its own inverse. -/
theorem nb_nb : ∀ (k : Fin 4) (c : Dev nD), nb k (nb k c) = c := by decide +kernel

/-- A partner relation as a permutation of the devices. -/
def nbE (k : Fin 4) : Dev nD ≃ Dev nD := ⟨nb k, nb k, nb_nb k, nb_nb k⟩

theorem nb_inj {k : Fin 4} {a b : Dev nD} (h : nb k a = nb k b) : a = b := (nbE k).injective h
theorem eq_nb_iff {k : Fin 4} {a b : Dev nD} : a = nb k b ↔ nb k a = b :=
  ⟨fun h => by rw [h, nb_nb], fun h => by rw [← h, nb_nb]⟩

/-! ## The devices the kernel addresses -/

theorem dev1_eq : ∀ c : Dev nD, (⟨k0_dev1 c, k0_dev1_lt c⟩ : Dev nD) = nb 0 c := by decide +kernel
theorem dev2_eq : ∀ c : Dev nD, (⟨k0_dev2 c, k0_dev2_lt c⟩ : Dev nD) = nb 1 c := by decide +kernel
theorem dev3_eq : ∀ c : Dev nD, (⟨k0_dev3 c, k0_dev3_lt c⟩ : Dev nD) = nb 2 c := by decide +kernel
theorem dev4_eq : ∀ c : Dev nD, (⟨k0_dev4 c, k0_dev4_lt c⟩ : Dev nD) = nb 3 c := by decide +kernel
theorem dev5_eq : ∀ c : Dev nD, (⟨k0_dev5 c, k0_dev5_lt c⟩ : Dev nD) = nb 0 c := by decide +kernel
theorem dev6_eq : ∀ c : Dev nD, (⟨k0_dev6 c, k0_dev6_lt c⟩ : Dev nD) = nb 0 c := by decide +kernel
theorem dev7_eq : ∀ c : Dev nD, (⟨k0_dev7 c, k0_dev7_lt c⟩ : Dev nD) = nb 0 c := by decide +kernel
theorem dev8_eq : ∀ c : Dev nD, (⟨k0_dev8 c, k0_dev8_lt c⟩ : Dev nD) = nb 0 c := by decide +kernel
theorem dev9_eq : ∀ c : Dev nD, (⟨k0_dev9 c, k0_dev9_lt c⟩ : Dev nD) = nb 0 c := by decide +kernel
theorem dev10_eq : ∀ c : Dev nD, (⟨k0_dev10 c, k0_dev10_lt c⟩ : Dev nD) = nb 1 c := by decide +kernel
theorem dev11_eq : ∀ c : Dev nD, (⟨k0_dev11 c, k0_dev11_lt c⟩ : Dev nD) = nb 2 c := by decide +kernel
theorem dev12_eq : ∀ c : Dev nD, (⟨k0_dev12 c, k0_dev12_lt c⟩ : Dev nD) = nb 3 c := by decide +kernel

/-! ## The rows it addresses -/

/-- The assignments' slice starts at the device's quarter. -/
theorem off1_eq : ∀ c : Dev nD, k0_off1 c = ![128 * (c.val / 2)] := by decide +kernel
theorem off2_eq : ∀ c : Dev nD, k0_off2 c = ![128 * (c.val / 2)] := by decide +kernel
/-- The rows of the result it fills and sends start at its quarter. -/
theorem off3_eq : ∀ c : Dev nD, k0_off3 c = ![128 * (c.val / 2), 0] := by decide +kernel
theorem off4_eq : ∀ c : Dev nD, k0_off4 c = ![128 * (c.val / 2), 0] := by decide +kernel

end Cert.Moe

end
-- ==== Proof.Own.lean ====
/-
# Buffers held at a value

`own c m q x` holds the share `q` of a memref's own elements on device `c`, at the value `x`; `any c m` holds
them whole, at contents nobody needs to know. What follows splits and joins these along families of boxes, and
states a load and a store by value.
-/
module

public import proofs.«01_k».proof.Proof.Mesh
public import Idealize.ShloMosaic.Lib.Pipeline.Regions
public import Idealize.ShloMosaic.Lib.Pipeline.Kit
public import Idealize.ShloMosaic.Lib.Pipeline.RegionTalk
public import Idealize.ShloMosaic.Lib.Pipeline.Launch
public import Idealize.ShloMosaic.Lib.Rounds
public import Idealize.ShloMosaic.Lib.StableHlo
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state of the proof: the rounds of the semaphores, with at most four duties each. -/
abbrev UB := URounds (GSem nD τ sig) (Fin 4)
/-- Beside it, the pipeline's own. -/
abbrev UU := UR sig nD τ × UB

local notation "𝕄" => MT nD τ sig Unit (Elt F) ℕ UU ℕ

variable {s : Shape} {e : EltTy} {sp : Space}

/-- The share `q` of the memref's elements on device `c`, at the value `x`. -/
abbrev own (c : Dev nD) (m : Memref sig .tc sp s e) (q : PosShare TreeShare) (x : s.Idx → Elt F e) : sProp 𝕄 :=
  m.view.loc (c : Thread nD τ) ↦[m.view.set]{q} m.view.rep x

/-- The memref's elements on device `c`, at some contents. -/
def any (c : Dev nD) (m : Memref sig .tc sp s e) : sProp 𝕄 :=
  iprop(∃ f : Buf (Elt F) (m.view.loc (c : Thread nD τ)), m.view.loc (c : Thread nD τ) ↦[m.view.set]{fullShare} f)

theorem own_of (c : Dev nD) (m : Memref sig .tc sp s e) (q : PosShare TreeShare) (f : Buf (Elt F) (m.view.loc (c : Thread nD τ))) :
    (m.view.loc (c : Thread nD τ) ↦[m.view.set]{q} f : sProp 𝕄) = own c m q (m.view.read (Elt F) f) :=
  pointsTo_rep (c : Thread nD τ) m f q

theorem own_any (c : Dev nD) (m : Memref sig .tc sp s e) (x : s.Idx → Elt F e) : own c m fullShare x ⊢ any (F := F) c m := by
  unfold any; iintro H; iexists _; iexact H

theorem any_own (c : Dev nD) (m : Memref sig .tc sp s e) : any (F := F) c m ⊢ iprop(∃ x, own c m fullShare x) := by
  unfold any; iintro ⟨%f, H⟩; iexists m.view.read (Elt F) f; rw [← own_of]; iexact H

/-- A share of a buffer is its two halves. -/
theorem own_share (c : Dev nD) (m : Memref sig .tc sp s e) (q : PosShare TreeShare) (x : s.Idx → Elt F e) :
    own c m q x ⊣⊢ iprop(own c m q.left x ∗ own c m q.right x) :=
  pointsTo_share (PosShare.mem_left_op_right q)

/-- Holding all the elements of a buffer is holding the whole memref over it. -/
theorem own_whole (c : Dev nD) {m : Memref sig .tc sp s e} (hm : m.view.set = Finset.univ) (q : PosShare TreeShare)
    (f : Buf (Elt F) (m.view.loc (c : Thread nD τ))) :
    (m.view.loc (c : Thread nD τ) ↦[Finset.univ]{q} f : sProp 𝕄) = own c m q (m.view.read (Elt F) f) := by
  rw [← own_of, hm]

theorem any_whole (c : Dev nD) {m : Memref sig .tc sp s e} (hm : m.view.set = Finset.univ) :
    (any c m : sProp 𝕄) = iprop(∃ f : Buf (Elt F) (m.view.loc (c : Thread nD τ)), m.view.loc (c : Thread nD τ) ↦{fullShare} f) := by
  unfold any; rw [hm]

/-- Along boxes that are pairwise disjoint and cover the memref, a held memref is its held pieces. -/
theorem own_pieces {ι : Type} [Fintype ι] [DecidableEq ι] (c : Dev nD) (m : Memref sig .tc sp s e) (q : PosShare TreeShare)
    (r : ι → Rect s) (hr : ∀ i, ∀ a, (r i).stride a = 1) (hdis : ∀ i j, i ≠ j → Disjoint (r i).set (r j).set)
    (hcov : ∀ y, ∃ i, y ∈ (r i).set) (x : s.Idx → Elt F e) :
    own c m q x ⊣⊢ bigSep Finset.univ fun i => own c (m.slice (r i) (hr i)) q (fun j => x ((r i).emb j)) := by
  have hset : m.view.set = Finset.univ.biUnion fun i => (m.slice (r i) (hr i)).view.set := by
    ext y
    simp only [Finset.mem_biUnion, Finset.mem_univ, true_and]
    constructor
    · intro hy
      obtain ⟨z, -, rfl⟩ := Finset.mem_map.mp hy
      obtain ⟨i, hi⟩ := hcov z
      exact ⟨i, by
        show _ ∈ (m.view.slice (r i)).set
        rw [View.set_slice]; exact Finset.mem_map_of_mem _ hi⟩
    · rintro ⟨i, hi⟩; exact View.set_slice_subset m.view (r i) hi
  have hpw : ∀ i, (own c (m.slice (r i) (hr i)) q (fun j => x ((r i).emb j)) : sProp 𝕄)
      = (m.view.loc (c : Thread nD τ) ↦[(m.slice (r i) (hr i)).view.set]{q} m.view.rep x) := by
    intro i
    refine (pointsTo_congr fun y hy => ?_).symm
    obtain ⟨z, -, rfl⟩ := Finset.mem_map.mp hy
    rw [View.rep_emb]
    show m.view.rep x (m.view.emb ((r i).emb z)) = _
    rw [View.rep_emb]
  simp only [hpw]
  show (m.view.loc (c : Thread nD τ) ↦[m.view.set]{q} m.view.rep x) ⊣⊢ _
  rw [hset]
  refine BiEntails.of_eq (pointsTo_biUnion _ _ ?_)
  · intro i _ j _ hij
    show Disjoint (m.view.slice (r i)).set (m.view.slice (r j)).set
    rw [View.set_slice, View.set_slice]
    exact (Finset.disjoint_map _).mpr (hdis i j hij)

/-- The value over the whole memref whose pieces along the boxes are `xs`. -/
def glue {ι : Type} (r : ι → Rect s) (xs : ∀ i, (r i).shape.Idx → Elt F e) (y : s.Idx) : Elt F e :=
  open Classical in
  if h : ∃ p : (i : ι) × (r i).shape.Idx, (r p.1).emb p.2 = y then xs h.choose.1 h.choose.2 else Classical.choice ((inferInstance : ∀ e, Nonempty (Elt F e)) e)

theorem glue_emb {ι : Type} (r : ι → Rect s) (hdis : ∀ i j, i ≠ j → Disjoint (r i).set (r j).set)
    (xs : ∀ i, (r i).shape.Idx → Elt F e) (i : ι) (j : (r i).shape.Idx) : glue r xs ((r i).emb j) = xs i j := by
  have h : ∃ p : (i : ι) × (r i).shape.Idx, (r p.1).emb p.2 = (r i).emb j := ⟨⟨i, j⟩, rfl⟩
  unfold glue
  rw [dif_pos h]
  have hp := h.choose_spec
  generalize h.choose = p at hp
  obtain ⟨i', j'⟩ := p
  dsimp only at hp ⊢
  obtain rfl : i' = i := by
    by_contra hne
    refine Finset.disjoint_left.mp (hdis i' i hne) ((r i').idx_mem j') ?_
    have := (r i).idx_mem j
    show (r i').emb j' ∈ _
    rw [hp]; exact this
  rw [(r i').emb.injective hp]

/-- Held pieces at any values join to the memref held at the value they make up. -/
theorem own_join {ι : Type} [Fintype ι] [DecidableEq ι] (c : Dev nD) (m : Memref sig .tc sp s e) (q : PosShare TreeShare)
    (r : ι → Rect s) (hr : ∀ i, ∀ a, (r i).stride a = 1) (hdis : ∀ i j, i ≠ j → Disjoint (r i).set (r j).set)
    (hcov : ∀ y, ∃ i, y ∈ (r i).set) (xs : ∀ i, (r i).shape.Idx → Elt F e) :
    (bigSep Finset.univ fun i => own c (m.slice (r i) (hr i)) q (xs i)) ⊢ own c m q (glue r xs) := by
  refine BIBase.Entails.trans ?_ (own_pieces c m q r hr hdis hcov _).2
  refine BIBase.Entails.of_eq (congrArg _ (funext fun i => congrArg _ (funext fun j => ?_)))
  exact (glue_emb r hdis xs i j).symm

/-- A memref held at some contents splits into its pieces held at some contents. -/
theorem any_pieces {ι : Type} [Fintype ι] [DecidableEq ι] (c : Dev nD) (m : Memref sig .tc sp s e)
    (r : ι → Rect s) (hr : ∀ i, ∀ a, (r i).stride a = 1) (hdis : ∀ i j, i ≠ j → Disjoint (r i).set (r j).set)
    (hcov : ∀ y, ∃ i, y ∈ (r i).set) :
    any (F := F) c m ⊢ bigSep Finset.univ fun i => any c (m.slice (r i) (hr i)) := by
  refine (any_own c m).trans ?_
  iintro ⟨%x, H⟩
  ihave H := (own_pieces c m fullShare r hr hdis hcov x).1 $$ H
  have h : (bigSep Finset.univ fun i => (own c (m.slice (r i) (hr i)) fullShare (fun j => x ((r i).emb j)) : sProp 𝕄))
      ⊢ bigSep Finset.univ fun i => any c (m.slice (r i) (hr i)) := bigSep_mono fun i _ => own_any c _ _
  iapply h
  iexact H

/-- Pieces held at some contents join to the memref held at some contents. -/
theorem any_join {ι : Type} [Fintype ι] [DecidableEq ι] (c : Dev nD) (m : Memref sig .tc sp s e)
    (r : ι → Rect s) (hr : ∀ i, ∀ a, (r i).stride a = 1) (hdis : ∀ i j, i ≠ j → Disjoint (r i).set (r j).set)
    (hcov : ∀ y, ∃ i, y ∈ (r i).set) :
    (bigSep Finset.univ fun i => any (F := F) c (m.slice (r i) (hr i))) ⊢ any c m := by
  have h : (bigSep Finset.univ fun i => (any c (m.slice (r i) (hr i)) : sProp 𝕄))
      ⊢ bigSep Finset.univ fun i => iprop(∃ x, own c (m.slice (r i) (hr i)) fullShare x) := bigSep_mono fun i _ => any_own c _
  refine BIBase.Entails.trans h (BIBase.Entails.trans (bigSep_exists_pi _ _) ?_)
  iintro ⟨%xs, H⟩
  ihave H := own_join c m fullShare r hr hdis hcov xs $$ H
  iapply own_any
  iexact H

variable {𝒱 : Variants} {c : Dev nD} {m : Memref sig .tc .vmem s e} {α : Type}

/-- A load by value, from any share of the memref. -/
theorem load_own {r : LoadRect s} {hl : m.view.LoadsAt r}
    {k : (r.shape.Idx → Elt F e) → Prog (TpuEff nD τ sig (Elt F) Λ₀ .tc) α} {Q : α → sProp 𝕄}
    (q : PosShare TreeShare) (x : s.Idx → Elt F e) :
    own c m q x ⊢ iprop((own c m q x -∗ wp frame (wpE (defs₀ (F := F)) 𝒱 (c : Thread nD τ) none) Set.univ (k (fun j => x (r.idx j))) Q)
      -∗ wp frame (wpE (defs₀ (F := F)) 𝒱 (c : Thread nD τ) none) Set.univ (.op (.load m r hl) k) Q) := by
  have h := wp_load (defs := defs₀ (F := F)) (Γ := .empty) 𝒱 (c : Thread nD τ) none Set.univ (m := m) (r := r) (hl := hl) (k := k) (Q := Q)
    (S := m.view.set) (q := q) (f := m.view.rep x) (Finset.map_subset_map.mpr (Finset.subset_univ _))
  rw [View.readAt_rep] at h
  exact h

/-- A load of a box by value, from any share of the box alone. -/
theorem load_slice {r : Rect s} (hr : ∀ a, r.stride a = 1) {hl : m.view.LoadsAt r}
    {k : (r.shape.Idx → Elt F e) → Prog (TpuEff nD τ sig (Elt F) Λ₀ .tc) α} {Q : α → sProp 𝕄}
    (q : PosShare TreeShare) (x : r.shape.Idx → Elt F e) :
    own c (m.slice r hr) q x ⊢ iprop((own c (m.slice r hr) q x -∗ wp frame (wpE (defs₀ (F := F)) 𝒱 (c : Thread nD τ) none) Set.univ (k x) Q)
      -∗ wp frame (wpE (defs₀ (F := F)) 𝒱 (c : Thread nD τ) none) Set.univ (.op (.load m r hl) k) Q) := by
  have h := wp_load_rect (defs := defs₀ (F := F)) (Γ := .empty) 𝒱 (c : Thread nD τ) none Set.univ (m := m) (r := r) (hl := hl) (k := k) (Q := Q)
    (S := (m.access r).set) (q := q) (f := (m.access r).rep x) (Finset.Subset.refl _)
  rw [View.read_rep] at h
  exact h

/-- A store of a box by value: the box's elements, whatever they held, hold the stored value. -/
theorem store_slice {r : Rect s} (hr : ∀ a, r.stride a = 1) {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} {Q : α → sProp 𝕄} :
    any c (m.slice r hr) ⊢ iprop((own c (m.slice r hr) fullShare w -∗ wp frame (wpE (defs₀ (F := F)) 𝒱 (c : Thread nD τ) none) Set.univ (k ⟨⟩) Q)
      -∗ wp frame (wpE (defs₀ (F := F)) 𝒱 (c : Thread nD τ) none) Set.univ (.op (.store m r w Finset.univ hx hm) k) Q) := by
  unfold any
  iintro ⟨%f, H⟩
  have h := wp_store (defs := defs₀ (F := F)) (Γ := .empty) 𝒱 (c : Thread nD τ) none Set.univ (m := m) (r := r) (w := w) (Mk := Finset.univ)
    (hx := hx) (hm := hm) (k := k) (Q := Q) (S := (m.access r).set) (f := f) (Finset.Subset.refl _)
  have e : ((m.access r).loc (c : Thread nD τ) ↦[(m.access r).set]{fullShare} ((m.access r).write (Elt F) f w Finset.univ) : sProp 𝕄)
      = own c (m.slice r hr) fullShare w := by
    refine (own_of c (m.slice r hr) fullShare _).trans ?_
    exact congrArg _ (View.read_write_univ (v := m.access r) f w)
  rw [e] at h
  iapply h
  iexact H

end Cert.Moe
-- ==== Proof.Vals.lean ====
/-
# What each buffer holds

The kernel's buffers by name, the boxes its copies move, and the values the buffers of device `c` come to hold,
as functions of the four inputs of all devices.
-/
module

public import proofs.«01_k».proof.Proof.Own

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers -/

/-- The rows of `x` of the device's quarter. -/
abbrev xB : Memref sig .tc .vmem S128x512 .bf16 := Memref.whole cc0_stg0_0
/-- The experts the rows are assigned to. -/
abbrev aB : Memref sig .tc .vmem S512 .i32 := Memref.whole cc0_stg1_0
/-- The first weights of the device's two experts. -/
abbrev uB : Memref sig .tc .vmem S2x512x1024 .bf16 := Memref.whole cc0_stg2_0
/-- The second weights of the device's two experts. -/
abbrev wB : Memref sig .tc .vmem S2x1024x512 .bf16 := Memref.whole cc0_stg3_0
/-- The result. -/
abbrev outB : Memref sig .tc .hbm S512x512 .f32 := Memref.whole main_v16
/-- Where the first partner's rows land. -/
abbrev xrB : Memref sig .tc .vmem S128x512 .bf16 := Memref.whole cc0_scratch0
/-- Where the first partner's assignments land. -/
abbrev arB : Memref sig .tc .vmem S128 .i32 := Memref.whole cc0_scratch1
/-- This device's experts on the first partner's rows. -/
abbrev ysB : Memref sig .tc .vmem S128x512 .bf16 := Memref.whole cc0_scratch2
/-- Where the first partner's experts' results on this device's rows land. -/
abbrev yrB : Memref sig .tc .vmem S128x512 .bf16 := Memref.whole cc0_scratch3
/-- The gathered quarters. -/
abbrev sB : Memref sig .tc .vmem S512x512 .bf16 := Memref.whole cc0_scratch4
/-- The gathered quarters in single precision. -/
abbrev oB : Memref sig .tc .vmem S512x512 .f32 := Memref.whole cc0_scratch5

/-! ## The boxes -/

/-- The upper half of the rows of a quarter. -/
abbrev h0 : Rect S128x512 := Rect.unit (s := S128x512) ![0, 0] S64x512.size inb_S128x512_S64x512_0_0
/-- The lower half. -/
abbrev h1 : Rect S128x512 := Rect.unit (s := S128x512) ![64, 0] S64x512.size inb_S128x512_S64x512_64_0
/-- The two halves. -/
abbrev hR : Fin 2 → Rect S128x512 := fun | 0 => h0 | 1 => h1
/-- The rows of device `d`'s quarter. -/
abbrev qR (d : Dev nD) : Rect S512x512 := Rect.unit (s := S512x512) (k0_off4 d) S128x512.size (k0_off4_inb d)
/-- The assignments of device `d`'s quarter. -/
abbrev aR (d : Dev nD) : Rect S512 := Rect.unit (s := S512) (k0_off1 d) S128.size (k0_off1_inb d)

theorem hR_unit : ∀ i, ∀ a, (hR i).stride a = 1 := fun | 0, _ => rfl | 1, _ => rfl
theorem qR_unit (d : Dev nD) : ∀ a, (qR d).stride a = 1 := fun _ => rfl

/-- A device's quarter: 0 is itself, 1, 2, 3 its partners in the other quarters. -/
def who (k : Fin 4) (c : Dev nD) : Dev nD := if k = 0 then c else nb k c

theorem hR_dis : ∀ i j, i ≠ j → Disjoint (hR i).set (hR j).set := by
  intro i j hij
  fin_cases i <;> fin_cases j
  · exact absurd rfl hij
  · exact Rect.unit_disjoint 0 (.inl (by decide))
  · exact Rect.unit_disjoint 0 (.inr (by decide))
  · exact absurd rfl hij

theorem hR_cov (y : S128x512.Idx) : ∃ i, y ∈ (hR i).set := by
  have h0 := (y 0).isLt
  have h1 := (y 1).isLt
  simp only [S128x512, Matrix.cons_val_zero, Matrix.cons_val_one] at h0 h1
  by_cases h : (y 0).val < 64
  · refine ⟨0, Rect.mem_set_unit.mpr fun a => ?_⟩
    fin_cases a <;> simp <;> omega
  · refine ⟨1, Rect.mem_set_unit.mpr fun a => ?_⟩
    fin_cases a <;> simp <;> omega

theorem who_quarter : ∀ (c : Dev nD) (i j : Fin 4), i ≠ j → (who i c).val / 2 ≠ (who j c).val / 2 := by decide +kernel

theorem quarter_who : ∀ (c : Dev nD) (q : Fin 4), ∃ i, (who i c).val / 2 = q.val := by decide +kernel

theorem qR_dis (c : Dev nD) : ∀ i j, i ≠ j → Disjoint (qR (who i c)).set (qR (who j c)).set := by
  intro i j hij
  have h := who_quarter c i j hij
  refine Rect.unit_disjoint 0 ?_
  rw [off4_eq, off4_eq]
  show 128 * ((who i c).val / 2) + 128 ≤ 128 * ((who j c).val / 2) ∨ 128 * ((who j c).val / 2) + 128 ≤ 128 * ((who i c).val / 2)
  omega

theorem mem_qR {d : Dev nD} {y : S512x512.Idx} (h : (y 0).val / 128 = d.val / 2) : y ∈ (qR d).set := by
  refine Rect.mem_set_unit.mpr fun a => ?_
  have h1 := (y 1).isLt
  simp only [S512x512, Matrix.cons_val_one] at h1
  rw [off4_eq]
  fin_cases a
  · show 128 * (d.val / 2) ≤ (y 0).val ∧ (y 0).val < 128 * (d.val / 2) + 128
    omega
  · show 0 ≤ (y 1).val ∧ (y 1).val < 0 + 512
    exact ⟨Nat.zero_le _, by simpa using h1⟩

theorem qR_cov (c : Dev nD) (y : S512x512.Idx) : ∃ i, y ∈ (qR (who i c)).set := by
  have h0 := (y 0).isLt
  simp only [S512x512, Matrix.cons_val_zero] at h0
  obtain ⟨i, hi⟩ := quarter_who c ⟨(y 0).val / 128, by omega⟩
  exact ⟨i, mem_qR hi.symm⟩

/-! ## The values -/

/-- The four inputs of one device. -/
structure In (F : FTy → Type) [FloatOps F] where
  /-- The rows of its quarter. -/
  x : S128x512.Idx → Elt F .bf16
  /-- The assignments of all its rows. -/
  a : S512.Idx → Elt F .i32
  /-- Its two experts' first weights. -/
  u : S2x512x1024.Idx → Elt F .bf16
  /-- Its two experts' second weights. -/
  w : S2x1024x512.Idx → Elt F .bf16

/-- The device's `z`, as the kernel computes it. -/
abbrev zw (c : Dev nD) : BitVec 32 := Scalar.remsi (Scalar.divsi (Dev.word c) 1#32) 2#32
/-- Its first expert. -/
abbrev ew (c : Dev nD) : BitVec 32 := Scalar.muli 2#32 (zw c)

namespace In

variable (I : In F)

/-- The first weights of its first expert, as loaded. -/
abbrev u0 : S1x512x1024.Idx → Elt F .bf16 := fun j => I.u ((Rect.unit (s := S2x512x1024) ![0, 0, 0] S1x512x1024.size inb_S2x512x1024_S1x512x1024_0_0_0).toLoadRect.idx j)
/-- The first weights of its second expert. -/
abbrev u1 : S1x512x1024.Idx → Elt F .bf16 := fun j => I.u ((Rect.unit (s := S2x512x1024) ![1, 0, 0] S1x512x1024.size inb_S2x512x1024_S1x512x1024_1_0_0).toLoadRect.idx j)
/-- The second weights of its first expert. -/
abbrev w0 : S1x1024x512.Idx → Elt F .bf16 := fun j => I.w ((Rect.unit (s := S2x1024x512) ![0, 0, 0] S1x1024x512.size inb_S2x1024x512_S1x1024x512_0_0_0).toLoadRect.idx j)
/-- The second weights of its second expert. -/
abbrev w1 : S1x1024x512.Idx → Elt F .bf16 := fun j => I.w ((Rect.unit (s := S2x1024x512) ![1, 0, 0] S1x1024x512.size inb_S2x1024x512_S1x1024x512_1_0_0).toLoadRect.idx j)

/-- Its rows, as loaded whole. -/
abbrev xL : S128x512.Idx → Elt F .bf16 := fun j => I.x ((Rect.unit (s := S128x512) ![0, 0] S128x512.size inb_S128x512_S128x512_0_0).toLoadRect.idx j)
/-- The upper half of its rows. -/
abbrev x0 : S64x512.Idx → Elt F .bf16 := fun j => I.x (h0.emb j)
/-- The lower half of its rows. -/
abbrev x1 : S64x512.Idx → Elt F .bf16 := fun j => I.x (h1.emb j)
/-- The assignments of its quarter's rows, as copied. -/
abbrev aq (c : Dev nD) : S128.Idx → Elt F .i32 := fun j => I.a ((aR c).emb j)
/-- The same, as loaded. -/
abbrev aL (c : Dev nD) : S128.Idx → Elt F .i32 := fun j => I.a ((Rect.unit (s := S512) (k0_off2 c) S128.size (k0_off2_inb c)).toLoadRect.idx j)
/-- The assignments of the upper half. -/
abbrev a0 (c : Dev nD) : S64.Idx → Elt F .i32 := fun j => I.aq c ((Rect.unit (s := S128) ![0] S64.size inb_S128_S64_0).toLoadRect.idx j)
/-- The assignments of the lower half. -/
abbrev a1 (c : Dev nD) : S64.Idx → Elt F .i32 := fun j => I.aq c ((Rect.unit (s := S128) ![64] S64.size inb_S128_S64_64).toLoadRect.idx j)

end In

variable (I : Dev nD → In F)

/-- Device `c`'s experts on its own rows. -/
def own0 (c : Dev nD) : S128x512.Idx → Elt F .bf16 :=
  k0_pay6 (ew c) (k0_pay2 (I c).xL) (k0_pay3 (F := F) ((I c).aL c)) (k0_pay4 (F := F)) (k0_pay5 (zw c) (I c).xL ((I c).aL c) (I c).u0) (I c).w0 (I c).u1 (I c).w1

/-- Device `c`'s experts on the upper half of its first partner's rows. -/
def ys0 (c : Dev nD) : S64x512.Idx → Elt F .bf16 :=
  k0_pay10 (ew c) (I (nb 0 c)).x0 (k0_pay7 (F := F) ((I (nb 0 c)).a0 (nb 0 c))) (k0_pay8 (F := F)) (k0_pay9 (ew c) (I (nb 0 c)).x0 ((I (nb 0 c)).a0 (nb 0 c)))
    (I c).u0 (I c).w0 (I c).u1 (I c).w1

/-- Device `c`'s experts on the lower half of its first partner's rows. -/
def ys1 (c : Dev nD) : S64x512.Idx → Elt F .bf16 :=
  k0_pay14 (ew c) (I (nb 0 c)).x1 (k0_pay11 (F := F) ((I (nb 0 c)).a1 (nb 0 c))) (k0_pay12 (F := F)) (k0_pay13 (F := F) (ew c) ((I (nb 0 c)).a1 (nb 0 c)))
    (Scalar.ofBits .bf16 0x0000#16) (I c).u0 (I c).w0 (I c).u1 (I c).w1

/-- The two halves. -/
def ysR (c : Dev nD) : ∀ i : Fin 2, (hR i).shape.Idx → Elt F .bf16 := fun | 0 => ys0 I c | 1 => ys1 I c

/-- What the first partner computes of device `c`'s rows. -/
def yr (c : Dev nD) : S128x512.Idx → Elt F .bf16 := glue hR (ysR I (nb 0 c))

/-- Device `c`'s rows through all experts. -/
def sq (c : Dev nD) : S128x512.Idx → Elt F .bf16 :=
  k0_pay15 (own0 I c) (fun j => yr I c ((Rect.unit (s := S128x512) ![0, 0] S128x512.size inb_S128x512_S128x512_0_0).toLoadRect.idx j))

/-- The four quarters gathered on device `c`. -/
def sAll (c : Dev nD) : S512x512.Idx → Elt F .bf16 := glue (fun i => qR (who i c)) (fun i => sq I (who i c))

/-- The result on device `c`. -/
def outV (c : Dev nD) : S512x512.Idx → Elt F .f32 :=
  k0_pay1 (fun j => sAll I c ((Rect.unit (s := S512x512) ![0, 0] S512x512.size inb_S512x512_S512x512_0_0).toLoadRect.idx j))

end Cert.Moe
-- ==== Proof.Proto.lean ====
/-
# The protocol of the semaphores

Every semaphore goes one round. The barrier semaphore of device `c` collects one unit from each partner, and with it
the right to write the partner's landing buffers. Each of the seventeen copy semaphores collects one copy: on the
sender, the source comes back; on the receiver, the landing buffer comes back holding what was sent.
-/
module

public import proofs.«01_k».proof.Proof.Vals

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Where the pipeline keeps its own ghost state. -/
abbrev EP : Emb (UR sig nD τ) (MT nD τ sig Unit (Elt F) ℕ UU ℕ) := embL
/-- Where this protocol keeps its own. -/
abbrev ER : Emb UB (MT nD τ sig Unit (Elt F) ℕ UU ℕ) := embR

abbrev 𝒱₀ : Variants := Variants.none

/-! ## The cells -/

/-- The barrier semaphore. -/
abbrev barS : Sem sig := barrier0
/-- Copy semaphore `i`. -/
abbrev dsem (i : Fin 17) : DmaSem sig := ⟨i.val + 4, Nat.add_lt_of_lt_sub i.isLt⟩
/-- Its place. -/
abbrev osem (i : Fin 17) : SemLoc sig := .dma (dsem i)

theorem osem_inj : Function.Injective osem := by decide
theorem osem_ne_bar : ∀ i, osem i ≠ .reg barS := by decide

abbrev barCell (c : Dev nD) : GSem nD τ sig := ((c : Thread nD τ), .reg barS)
abbrev dcell (c : Dev nD) (i : Fin 17) : GSem nD τ sig := ((c : Thread nD τ), osem i)

/-- Which copy semaphore a place is. -/
def dix : SemLoc sig → Option (Fin 17)
  | .dma q => if h : 4 ≤ q.val then some ⟨q.val - 4, by have : q.val < 21 := q.isLt; omega⟩ else none
  | .reg _ => none

theorem dix_osem : ∀ i, dix (osem i) = some i := by decide
theorem dix_bar : dix (.reg barS) = none := rfl

/-! ## What each copy is worth, and what it hands over -/

/-- The amount of copy `i`. -/
def amt : Fin 17 → ℕ
  | 0 | 2 => (xrB.slice h0 fun _ => rfl).view.dmaCredit
  | 1 | 3 => (xrB.slice h1 fun _ => rfl).view.dmaCredit
  | 4 | 5 => arB.view.dmaCredit
  | 6 | 8 => (yrB.slice h0 fun _ => rfl).view.dmaCredit
  | 7 | 9 => (yrB.slice h1 fun _ => rfl).view.dmaCredit
  | 16 => outB.view.dmaCredit
  | _ => (sB.slice (qR 0) (qR_unit 0)).view.dmaCredit

theorem amt_pos (i : Fin 17) : 0 < amt i := by
  fin_cases i <;> exact View.dmaCredit_pos _ (by decide)

variable (I : Dev nD → In F)

/-- The shares of a gathered quarter that its three copies read. -/
abbrev shA : PosShare TreeShare := fullShare.left
abbrev shB : PosShare TreeShare := fullShare.right.left
abbrev shC : PosShare TreeShare := fullShare.right.right

/-- What copy semaphore `i` of device `c` hands over. -/
def pay (c : Dev nD) : Fin 17 → sProp 𝕄
  | 0 => own c (xB.slice h0 fun _ => rfl) fullShare.left (I c).x0
  | 1 => own c (xB.slice h1 fun _ => rfl) fullShare.left (I c).x1
  | 2 => own c (xrB.slice h0 fun _ => rfl) fullShare (I (nb 0 c)).x0
  | 3 => own c (xrB.slice h1 fun _ => rfl) fullShare (I (nb 0 c)).x1
  | 4 => own c (aB.slice (aR c) fun _ => rfl) fullShare.left ((I c).aq c)
  | 5 => own c arB fullShare ((I (nb 0 c)).aq (nb 0 c))
  | 6 => own c (ysB.slice h0 fun _ => rfl) fullShare (ys0 I c)
  | 7 => own c (ysB.slice h1 fun _ => rfl) fullShare (ys1 I c)
  | 8 => own c (yrB.slice h0 fun _ => rfl) fullShare (ys0 I (nb 0 c))
  | 9 => own c (yrB.slice h1 fun _ => rfl) fullShare (ys1 I (nb 0 c))
  | 10 => own c (sB.slice (qR c) (qR_unit c)) shA (sq I c)
  | 11 => own c (sB.slice (qR (nb 1 c)) (qR_unit _)) fullShare (sq I (nb 1 c))
  | 12 => own c (sB.slice (qR c) (qR_unit c)) shB (sq I c)
  | 13 => own c (sB.slice (qR (nb 2 c)) (qR_unit _)) fullShare (sq I (nb 2 c))
  | 14 => own c (sB.slice (qR c) (qR_unit c)) shC (sq I c)
  | 15 => own c (sB.slice (qR (nb 3 c)) (qR_unit _)) fullShare (sq I (nb 3 c))
  | _ => iprop(own c outB fullShare (outV I c) ∗ own c oB fullShare (outV I c))

/-- Paid to device `c`'s barrier by partner `k`: the partner's landing buffers for `c`'s copies, and that their
    semaphores are ready. -/
def barPay (c : Dev nD) : Fin 4 → sProp 𝕄
  | 0 => iprop((any (F := F) (nb 0 c) (xrB.slice h0 fun _ => rfl) ∗ any (F := F) (nb 0 c) (xrB.slice h1 fun _ => rfl) ∗ any (F := F) (nb 0 c) arB
      ∗ any (F := F) (nb 0 c) (yrB.slice h0 fun _ => rfl) ∗ any (F := F) (nb 0 c) (yrB.slice h1 fun _ => rfl))
      ∗ reached ER (dcell (nb 0 c) 2) 0 ∗ reached ER (dcell (nb 0 c) 3) 0 ∗ reached ER (dcell (nb 0 c) 5) 0
      ∗ reached ER (dcell (nb 0 c) 8) 0 ∗ reached ER (dcell (nb 0 c) 9) 0)
  | 1 => iprop(any (F := F) (nb 1 c) (sB.slice (qR c) (qR_unit c)) ∗ reached ER (dcell (nb 1 c) 11) 0)
  | 2 => iprop(any (F := F) (nb 2 c) (sB.slice (qR c) (qR_unit c)) ∗ reached ER (dcell (nb 2 c) 13) 0)
  | 3 => iprop(any (F := F) (nb 3 c) (sB.slice (qR c) (qR_unit c)) ∗ reached ER (dcell (nb 3 c) 15) 0)

/-- The duties at a place: one per copy semaphore, four on the barrier. -/
def dutyOf : SemLoc sig → Finset (Fin 4)
  | .reg s => if s = barS then Finset.univ else ∅
  | .dma q => if 4 ≤ q.val then {0} else ∅

/-- The schedule. -/
def Rd : Rounds.Schedule (GSem nD τ sig) (Fin 4) 𝕄 where
  duties g r := if r = 0 ∧ g.1.2 = .tc then dutyOf g.2 else ∅
  unitless _ := False
  amount g _ _ := match dix g.2 with | some i => amt i | none => 1
  payload g _ d := match dix g.2 with | some i => pay I g.1.1 i | none => barPay g.1.1 d
  amount_pos g _ _ _ := by
    cases dix g.2 with
    | none => exact Nat.one_pos
    | some i => exact amt_pos i

instance pay_storable (c : Dev nD) (i : Fin 17) : BI.Storable (upEmb : UEmb _ 𝕄) (pay I c i) := by
  unfold pay; split <;> infer_instance

instance any_storable {s : Shape} {e : EltTy} {sp : Space} (c : Dev nD) (m : Memref sig .tc sp s e) :
    BI.Storable (upEmb : UEmb _ 𝕄) (any (F := F) c m) := by unfold any; infer_instance

instance barPay_storable (c : Dev nD) (d : Fin 4) : BI.Storable (upEmb : UEmb _ 𝕄) (barPay (F := F) c d) := by
  unfold barPay; split <;> infer_instance

instance Rd_payload_storable (g : GSem nD τ sig) (r : ℕ) (d : Fin 4) :
    BI.Storable (upEmb : UEmb _ 𝕄) ((Rd I).payload g r d) := by
  show BI.Storable upEmb (match dix g.2 with | some i => pay I g.1.1 i | none => barPay g.1.1 d)
  split <;> infer_instance

section Sched

variable (c : Dev nD) (i : Fin 17)

theorem dutyOf_osem : ∀ i, dutyOf (osem i) = {0} := by decide
theorem duties_d : (Rd I).duties (dcell c i) 0 = {0} := by
  dsimp only [Rd]; rw [if_pos ⟨rfl, rfl⟩]; exact dutyOf_osem i
theorem duties_bar : (Rd I).duties (barCell c) 0 = Finset.univ := by
  dsimp only [Rd]; rw [if_pos ⟨rfl, rfl⟩]; unfold dutyOf; exact if_pos rfl
theorem duties_later (g : GSem nD τ sig) : ∀ r, 1 ≤ r → (Rd I).duties g r = ∅ :=
  fun r hr => by dsimp only [Rd]; rw [if_neg (fun h => by omega)]
theorem amount_d (d : Fin 4) : (Rd I).amount (dcell c i) 0 d = amt i := by
  dsimp only [Rd]; rw [dix_osem]
theorem amount_bar (d : Fin 4) : (Rd I).amount (barCell c) 0 d = 1 := rfl
theorem payload_d (d : Fin 4) : (Rd I).payload (dcell c i) 0 d = pay I c i := by
  dsimp only [Rd]; rw [dix_osem]
theorem payload_bar (d : Fin 4) : (Rd I).payload (barCell c) 0 d = barPay c d := rfl
theorem expect_d : (Rd I).expect (dcell c i) 0 = amt i := by
  unfold Schedule.expect Schedule.amountOf; rw [duties_d, Finset.sum_singleton, amount_d]
theorem expect_bar : (Rd I).expect (barCell c) 0 = 4 := by
  unfold Schedule.expect Schedule.amountOf; rw [duties_bar]; rfl
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem rest_d : bigSep ((Rd I).duties (dcell c i) 0 \ ∅) (fun d => (Rd I).payload (dcell c i) 0 d) = pay I c i := by
  rw [Finset.sdiff_empty, duties_d, bigSep_singleton, payload_d]
theorem rest_bar : bigSep ((Rd I).duties (barCell c) 0 \ ∅) (fun d => (Rd I).payload (barCell c) 0 d)
    = iprop(barPay (F := F) c 0 ∗ barPay c 1 ∗ barPay c 2 ∗ barPay c 3) := by
  rw [Finset.sdiff_empty, duties_bar]
  exact bigSep_fin4 (fun d => barPay c d)

end Sched

/-! ## What a device owes, and the levels -/

/-- What device `c` has yet to pay, counted from the last: the three swaps, the two halves of the partner's results,
    the assignments, the two halves of the rows, and the four barrier units. -/
def due (c : Dev nD) : ℕ → GSem nD τ sig × ℕ
  | 0 => (dcell (nb 3 c) 15, amt 15)
  | 1 => (dcell (nb 2 c) 13, amt 13)
  | 2 => (dcell (nb 1 c) 11, amt 11)
  | 3 => (dcell (nb 0 c) 9, amt 9)
  | 4 => (dcell (nb 0 c) 8, amt 8)
  | 5 => (dcell (nb 0 c) 5, amt 5)
  | 6 => (dcell (nb 0 c) 3, amt 3)
  | 7 => (dcell (nb 0 c) 2, amt 2)
  | 8 => (barCell (nb 3 c), 1)
  | 9 => (barCell (nb 2 c), 1)
  | 10 => (barCell (nb 1 c), 1)
  | _ => (barCell (nb 0 c), 1)

/-- What device `c` owes with `n` payments left. -/
def owed (c : Dev nD) : ℕ → CellTallies nD τ sig Unit
  | 0 => 0
  | n + 1 => owed c n + tallyAt (due c n).1 () (due c n).2

theorem owed_succ {c : Dev nD} {n : ℕ} {g : GSem nD τ sig} {a : ℕ} (h : due c n = (g, a)) :
    owed c (n + 1) = owed c n + tallyAt g () a := by
  show owed c n + tallyAt (due c n).1 () (due c n).2 = _
  rw [h]

def L (g : GSem nD τ sig) : Finset Unit := if g.1.2 = .tc then {()} else ∅

/-- The level of copy semaphore `i`: a receiver's is above what it waits for before it pays others. -/
def dlev (i : Fin 17) : ℕ :=
  if i.val = 2 ∨ i.val = 3 ∨ i.val = 5 then 2 else if i.val = 8 ∨ i.val = 9 then 3
    else if i.val = 11 ∨ i.val = 13 ∨ i.val = 15 then 4 else 0
def lv (g : GSem nD τ sig) (_ : Unit) : ℕ := match g.2 with | .reg _ => 1 | .dma q => match dix (.dma q) with | some i => dlev i | none => 0

/-- The level of the payment that is the `n`-th from the last. -/
def dueLev (n : ℕ) : ℕ := if n ≤ 2 then 4 else if n ≤ 4 then 3 else if n ≤ 7 then 2 else 1

theorem L_of_ne (g : GSem nD τ sig) (h : g.1.2 ≠ .tc) : L g = ∅ := if_neg h
theorem L_tc (c : Dev nD) (sm : SemLoc sig) : L ((c : Thread nD τ), sm) = {()} := if_pos rfl

theorem due_tc (c : Dev nD) (n : ℕ) : (due c n).1.1.2 = .tc := by
  unfold due; split <;> rfl
theorem due_lev (c : Dev nD) (n : ℕ) : lv (due c n).1 () = dueLev n := by
  match n with
  | 0 | 1 | 2 | 3 | 4 | 5 | 6 | 7 | 8 | 9 | 10 => rfl
  | n + 11 => simp only [due, lv, dueLev]; rw [if_neg (by omega), if_neg (by omega), if_neg (by omega)]

theorem owed_pos {c : Dev nD} {n : ℕ} {g : GSem nD τ sig} {u : Unit} (h : 0 < owed c n g u) : ∃ j < n, g = (due c j).1 := by
  induction n with
  | zero => exact absurd h (Nat.lt_irrefl 0)
  | succ n ih =>
    unfold owed at h
    rw [Pi.add_apply, Finsupp.add_apply] at h
    rcases Nat.add_pos_iff_pos_or_pos.mp h with h | h
    · obtain ⟨j, hj, e⟩ := ih h; exact ⟨j, by omega, e⟩
    · rw [tallyAt_apply] at h
      split at h
      · next hg => exact ⟨n, by omega, hg.1⟩
      · exact absurd h (Nat.lt_irrefl 0)

/-- A wait below everything still owed is allowed. -/
theorem mayWait (c : Dev nD) (sm : SemLoc sig) (n : ℕ) (h : ∀ j < n, lv ((c : Thread nD τ), sm) () < dueLev j) :
    (levAts L lv : sProp 𝕄) ⊢ MayWait (c : Thread nD τ) sm () (owed c n) :=
  MayOwe.of_cut (L := L) (lev := lv) (lv ((c : Thread nD τ), sm) ())
    (fun p hp => by rw [Finset.mem_singleton.mp hp, L_tc]; exact Finset.mem_singleton_self _)
    (fun g u hg => by
      obtain ⟨j, _, rfl⟩ := owed_pos hg
      unfold L; rw [if_pos (due_tc c j)]; exact Finset.mem_singleton_self _)
    (fun p hp => by rw [Finset.mem_singleton.mp hp])
    (fun g u hg => by
      obtain ⟨j, hj, rfl⟩ := owed_pos hg
      rw [due_lev]; exact h j hj)

end Cert.Moe
-- ==== Proof.Steps.lean ====
/-
# The steps of the kernel, one rule each

A wait on a copy semaphore, a copy to a partner, a signal to a partner, the wait on the barrier and the local copy,
each stated by what it takes and what it gives.
-/
module

public import proofs.«01_k».proof.Proof.Proto

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## All cells, and what everyone may consult -/

def barEmb : Dev nD ↪ GSem nD τ sig := ⟨fun c => barCell c, fun _ _ h => congrArg (fun g : GSem nD τ sig => g.1.1) h⟩
def scEmb : Dev nD × Fin 17 ↪ GSem nD τ sig :=
  ⟨fun ck => dcell ck.1 ck.2, fun _ _ h =>
    Prod.ext (congrArg (fun g : GSem nD τ sig => g.1.1) h) (osem_inj (congrArg Prod.snd h))⟩

/-- The barrier cells. -/
abbrev barCells : Finset (GSem nD τ sig) := Finset.univ.map barEmb
/-- The copy cells. -/
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem d_mem (c : Dev nD) (i : Fin 17) : dcell c i ∈ (barCells ∪ scCells : Finset (GSem nD τ sig)) :=
  Finset.mem_union_right _ (Finset.mem_map_of_mem scEmb (Finset.mem_univ (c, i)))

variable (I : Dev nD → In F)

/-- Every cell's invariant, under the names `K`; every barrier cell is at round 0. -/
def records (K : GSem nD τ sig → ℕ) : sProp 𝕄 :=
  iprop((bigSep (barCells ∪ scCells) fun g => cellInv ER (Rd I) (K g) g) ∗ bigSep barCells fun g => reached ER g 0)

instance records_persistent (K : GSem nD τ sig → ℕ) : BI.Persistent (records I K) := by unfold records; infer_instance

/-- The records and the levels. -/
def env (K : GSem nD τ sig → ℕ) : sProp 𝕄 := iprop(records I K ∗ levAts L lv)

instance env_persistent (K : GSem nD τ sig → ℕ) : BI.Persistent (env I K) := by unfold env; infer_instance

theorem records_bar (K : GSem nD τ sig → ℕ) (c : Dev nD) :
    records I K ⊢ iprop(cellInv ER (Rd I) (K (barCell c)) (barCell c) ∗ reached ER (barCell c) 0) := by
  unfold records
  exact BI.sep_mono (bigSep_elim (bar_mem c)) (bigSep_elim (Finset.mem_map_of_mem barEmb (Finset.mem_univ c)))

theorem records_d (K : GSem nD τ sig → ℕ) (c : Dev nD) (i : Fin 17) : records I K ⊢ cellInv ER (Rd I) (K (dcell c i)) (dcell c i) := by
  unfold records
  iintro ⟨#H, -⟩
  have h : (bigSep (barCells ∪ scCells) fun g => (cellInv ER (Rd I) (K g) g : sProp 𝕄)) ⊢ cellInv ER (Rd I) (K (dcell c i)) (dcell c i) :=
    bigSep_elim (d_mem c i)
  iapply h; iexact H

/-! ## Where a cell stands -/

/-- What device `c` owes with `n` payments left. -/
def Ow (c : Dev nD) (n : ℕ) : sProp 𝕄 := iprop(∃ W, owes (c : Thread nD τ) (owed c n) W)

/-- Copy semaphore `i` may be waited for. -/
def Wt (c : Dev nD) (i : Fin 17) : sProp 𝕄 := iprop(atPos ER (dcell c i) 0 ∅ 0 ∗ cred (tallyAt (dcell c i) () (amt i)))
/-- It may be sent on. -/
def Pr (c : Dev nD) (i : Fin 17) : sProp 𝕄 := iprop(atPos ER (dcell c i) 0 ∅ 0 ∗ dutyTok ER (dcell c i) 0 0 ∗ reached ER (dcell c i) 0)
/-- It is done. -/
def Dn (c : Dev nD) (i : Fin 17) : sProp 𝕄 := atPos ER (dcell c i) (0 + 1) ∅ 0

variable {I} {K : GSem nD τ sig → ℕ} {c : Dev nD} {α : Type}

/-- A wait on a copy semaphore gives what the copy hands over. -/
theorem waitD (i : Fin 17) (n : ℕ) (hlev : ∀ j < n, dlev i < dueLev j) {s s' : Shape} {e e' : EltTy} {sp sp' : Space}
    {src : Memref sig .tc sp' s' e'} {dst : Memref sig .tc sp s e} {hsrc : src.view.WordExact} {hdst : dst.view.WordExact}
    (hamt : dst.view.dmaCredit = amt i) {k : PUnit → Prog (TpuEff nD τ sig (Elt F) Λ₀ .tc) α} {Q : α → sProp 𝕄} :
    iprop(env I K ∗ Wt c i ∗ Ow c n)
      ⊢ iprop(((Dn c i ∗ pay I c i ∗ Ow c n) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dsem i) src dst hsrc hdst) k) Q) := by
  unfold env Wt Ow Dn
  iintro ⟨⟨#HR, #Hlev⟩, ⟨Hat, Hc⟩, ⟨%W, HO⟩⟩ Hk
  ihave #HI := (records_d I K c i) $$ HR
  have hlv : lv (dcell c i) () = dlev i := by dsimp only [lv]; rw [dix_osem]
  iapply (Rounds.wp_wait_rest_token 𝒱₀ ER (Rd I) (c : Thread nD τ) none (κ := K (dcell c i))
      (wpE_waitDma2_eq (src := src) (dst := dst) 𝒱₀ (c : Thread nD τ) none Set.univ) (Set.mem_univ _) () (O := owed c n) (W := W) (R := 0) (m := 0) (T := ∅)
      ((Nat.zero_add _).trans (hamt.trans (expect_d I c i).symm))) $$ [Hc HO Hat]
  · isplitr; · iexact HI
    isplitl [Hc]; · rw [hamt]; iexact Hc
    isplitl [HO]; · iexact HO
    isplitr; · iapply (mayWait c (osem i) n (fun j hj => by rw [hlv]; exact hlev j hj)); iexact Hlev
    iexact Hat
  iintro ⟨HO, Hat, -, Hpay⟩
  iapply Hk
  isplitl [Hat]; · iexact Hat
  isplitl [Hpay]; · iapply (Entails.of_eq (rest_d I c i)) $$ Hpay
  iexists _; iexact HO

/-- A copy to a partner: the source and the partner's landing buffer go, and the sender's semaphore may be waited for. -/
theorem sendD {n : Dev nD} {k₄ : Fin 4} (hn : n = nb k₄ c) (i j : Fin 17) (r : ℕ) (hdue : due c r = (dcell (nb k₄ c) j, amt j))
    (hij : amt i = amt j) {s : Shape} {e : EltTy} {sp sp' : Space} {src : Memref sig .tc sp s e} {dst : Memref sig .tc sp' s e}
    {hsc : dst.view.ref.isScScratch = false} {hsrc : src.view.WordExact} {hdst : dst.view.WordExact}
    {hsem : DmaTarget.Typed sp (.dma (dsem j)) (.remote (Dev.tc n : Thread nD τ) dst (.dma (dsem i)) hsc)}
    (hamt : dst.view.dmaCredit = amt j) {q : PosShare TreeShare} {x : s.Idx → Elt F e}
    (hpay₁ : own c src q x ⊢ pay I c i) (hpay₂ : own (nb k₄ c) dst fullShare x ⊢ pay I (nb k₄ c) j)
    {k : PUnit → Prog (TpuEff nD τ sig (Elt F) Λ₀ .tc) α} {Q : α → sProp 𝕄} :
    iprop(env I K ∗ own c src q x ∗ any (nb k₄ c) dst ∗ Pr c i ∗ dutyTok ER (dcell (nb k₄ c) j) 0 0 ∗ reached ER (dcell (nb k₄ c) j) 0 ∗ Ow c (r + 1))
      ⊢ iprop(((Wt c i ∗ Ow c r) -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma (dsem i)) hsc) (.dma (dsem j)) hsrc hdst hsem) k) Q) := by
  subst hn
  unfold env Wt Ow Pr any
  iintro ⟨⟨#HR, -⟩, Hs, ⟨%fd, Hd⟩, ⟨Hat, Ht, #Hr⟩, Ht', #Hr', ⟨%W, HO⟩⟩ Hk
  ihave #HI := (records_d I K c i) $$ HR
  ihave #HI' := (records_d I K (nb k₄ c) j) $$ HR
  iapply (Rounds.wp_send_pointsTo 𝒱₀ ER (Rd I) (c : Thread nD τ) none (c' := (nb k₄ c : Thread nD τ)) (src := src) (dst := dst)
      (sS := .dma (dsem i)) (sem := .dma (dsem j)) (q := q) (fs := src.view.rep x) (κ₁ := K (dcell c i)) (κ₂ := K (dcell (nb k₄ c) j))
      (r₁ := 0) (r₂ := 0) (d₁ := 0) (d₂ := 0) (fd := fd)
      (by rw [duties_d]; exact Finset.mem_singleton_self _) (by rw [duties_d]; exact Finset.mem_singleton_self _)
      () () (amt j) hamt ((amount_d I c i 0).trans hij) (amount_d I (nb k₄ c) j 0) (owed c r) (owed_succ hdue) (W := W)
      (by rw [payload_d]; exact hpay₁)
      (by
        rw [payload_d]
        refine BIBase.Entails.trans (BIBase.Entails.of_eq ?_) hpay₂
        refine (own_of (nb k₄ c) dst fullShare _).trans ?_
        rw [View.read_write_univ, View.read_rep])) $$ [Hs Hd Ht Ht' HO]
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [Hat Hc]
  · isplitl [Hat]; · iexact Hat
    rw [hij]; iexact Hc
  iexists _; iexact HO

/-- A signal to a partner hands over what the partner's barrier is to collect. -/
theorem signalD {n : Dev nD} {k₄ : Fin 4} (hn : n = nb k₄ c) (r : ℕ) (hdue : due c r = (barCell (nb k₄ c), 1))
    {k : PUnit → Prog (TpuEff nD τ sig (Elt F) Λ₀ .tc) α} {Q : α → sProp 𝕄} :
    iprop(env I K ∗ dutyTok ER (barCell (nb k₄ c)) 0 k₄ ∗ barPay (nb k₄ c) k₄ ∗ Ow c (r + 1))
      ⊢ iprop((Ow c r -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (Dev.tc n : Thread nD τ) barS 1) k) Q) := by
  subst hn
  unfold env Ow
  iintro ⟨⟨#HR, -⟩, Ht, Hp, ⟨%W, HO⟩⟩ Hk
  ihave #HI := (records_bar I K (nb k₄ c)) $$ HR
  icases HI with ⟨#HI, #Hr⟩
  iapply (Rounds.wp_signal 𝒱₀ ER (Rd I) (c : Thread nD τ) none (dst := (nb k₄ c : Thread nD τ)) (sem := barS) (r := 0) (d := k₄) (κ := K (barCell (nb k₄ c)))
      (by rw [duties_bar]; exact Finset.mem_univ _) (amount_bar I (nb k₄ c) k₄) () (owed c r) (owed_succ hdue))
    $$ [HO Ht Hp]
  · isplitr; · iexact HI
    isplitl [HO]; · iexact HO
    isplitl [Ht]; · iexact Ht
    isplitl [Hp]; · rw [payload_bar]; iexact Hp
    iexact Hr
  iintro HO
  iapply Hk
  iexists _; iexact HO

/-- The wait on the barrier gives the four partners' landing buffers. -/
theorem waitBar {k : PUnit → Prog (TpuEff nD τ sig (Elt F) Λ₀ .tc) α} {Q : α → sProp 𝕄} :
    iprop(env I K ∗ (atPos ER (barCell c) 0 ∅ 0 ∗ cred (tallyAt (barCell c) () 4)) ∗ Ow c 8)
      ⊢ iprop(((atPos ER (barCell c) (0 + 1) ∅ 0 ∗ (barPay c 0 ∗ barPay c 1 ∗ barPay c 2 ∗ barPay c 3) ∗ Ow c 8)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 4) k) Q) := by
  unfold env Ow
  iintro ⟨⟨#HR, #Hlev⟩, ⟨Hat, Hc⟩, ⟨%W, HO⟩⟩ Hk
  ihave #HI := (records_bar I K c) $$ HR
  icases HI with ⟨#HI, -⟩
  iapply (Rounds.wp_wait_rest_token 𝒱₀ ER (Rd I) (c : Thread nD τ) none (κ := K (barCell c))
      (wpE_semWait_eq 𝒱₀ (c : Thread nD τ) none Set.univ) (Set.mem_univ _) () (O := owed c 8) (W := W) (R := 0) (m := 0) (T := ∅)
      ((Nat.zero_add 4).trans (expect_bar I c).symm)) $$ [Hc HO Hat]
  · isplitr; · iexact HI
    isplitl [Hc]; · iexact Hc
    isplitl [HO]; · iexact HO
    isplitr; · iapply (mayWait c (.reg barS) 8 (fun j hj => (by decide : ∀ j < 8, 1 < dueLev j) j hj)); iexact Hlev
    iexact Hat
  iintro ⟨HO, Hat, -, Hpay⟩
  iapply Hk
  isplitl [Hat]; · iexact Hat
  isplitl [Hpay]; · iapply (Entails.of_eq (rest_bar I c)) $$ Hpay
  iexists _; iexact HO

/-- The local copy of the result. -/
theorem copyOut {hsrc : oB.view.WordExact} {hdst : outB.view.WordExact}
    {hsem : DmaTarget.Typed (nD := nD) (τ := τ) (p := .tc) .vmem (.dma (dsem 16)) (.here outB)}
    {k : PUnit → Prog (TpuEff nD τ sig (Elt F) Λ₀ .tc) α} {Q : α → sProp 𝕄} :
    iprop(env I K ∗ own c oB fullShare (outV I c) ∗ any c outB ∗ Pr c 16)
      ⊢ iprop((Wt c 16 -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma oB (.here outB) (.dma (dsem 16)) hsrc hdst hsem) k) Q) := by
  unfold env Wt Pr any
  iintro ⟨⟨#HR, -⟩, Hs, ⟨%fd, Hd⟩, ⟨Hat, Ht, #Hr⟩⟩ Hk
  ihave #HI := (records_d I K c 16) $$ HR
  iapply (Rounds.wp_copy_pointsTo 𝒱₀ ER (Rd I) (c : Thread nD τ) none (src := oB) (dst := outB) (sem := .dma (dsem 16)) (q := fullShare)
      (fs := oB.view.rep (outV I c)) (fd := fd) (r := 0) (d := 0) (κ := K (dcell c 16))
      (by rw [duties_d]; exact Finset.mem_singleton_self _) () (amt 16) rfl (amount_d I c 16 0)
      (by
        rw [payload_d]
        show _ ⊢ iprop(own c outB fullShare (outV I c) ∗ own c oB fullShare (outV I c))
        refine sep_mono_left (BIBase.Entails.of_eq ?_)
        refine (own_of c outB fullShare _).trans ?_
        rw [View.read_write_univ, View.read_rep])) $$ [Hs Hd Ht]
  · isplitr; · iexact HI
    isplitl [Hs]; · iexact Hs
    isplitl [Hd]; · iexact Hd
    isplitl [Ht]; · iexact Ht
    iexact Hr
  iintro Hc
  iapply Hk
  isplitl [Hat]; · iexact Hat
  iexact Hc

/-- A cell that is done is closed, its counter at zero. -/
theorem closeD (i : Fin 17) : iprop(records I K ∗ Dn c i) ⊢ (|={Set.univ}=> semVal (dcell c i) 0 : sProp 𝕄) := by
  unfold Dn
  iintro ⟨#HR, Hat⟩
  ihave #HI := (records_d I K c i) $$ HR
  iapply (Rounds.cell_close ER (Rd I) (Set.mem_univ (K (dcell c i))) id (duties_later I (dcell c i)))
  isplitr; · iexact HI
  iexact Hat

theorem closeBar : iprop(records I K ∗ atPos ER (barCell c) (0 + 1) ∅ 0) ⊢ (|={Set.univ}=> semVal (barCell c) 0 : sProp 𝕄) := by
  iintro ⟨#HR, Hat⟩
  ihave #HI := (records_bar I K c) $$ HR
  icases HI with ⟨#HI, -⟩
  iapply (Rounds.cell_close ER (Rd I) (Set.mem_univ (K (barCell c))) id (duties_later I (barCell c)))
  isplitr; · iexact HI
  iexact Hat

end Cert.Moe
-- ==== Proof.Splits.lean ====
/-
# Halves and quarters

The boxes of the copies, as pieces of the buffers they lie in.
-/
module

public import proofs.«01_k».proof.Proof.Steps

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Two summands of a separating product over two. -/
theorem bigSep_fin2 (Φ : Fin 2 → sProp 𝕄) : bigSep Finset.univ Φ = iprop(Φ 0 ∗ Φ 1) := BI.bigSep_fin_two Φ

/-- A buffer of a quarter's rows is its two halves. -/
theorem own_halves {sp : Space} {e : EltTy} (c : Dev nD) (m : Memref sig .tc sp S128x512 e) (q : PosShare TreeShare) (x : S128x512.Idx → Elt F e) :
    own c m q x ⊣⊢ iprop(own c (m.slice h0 fun _ => rfl) q (fun j => x (h0.emb j)) ∗ own c (m.slice h1 fun _ => rfl) q (fun j => x (h1.emb j))) := by
  have h := own_pieces c m q hR hR_unit hR_dis hR_cov x
  rw [bigSep_fin2] at h
  exact h

/-- Its two halves, at any values, are the buffer. -/
theorem halves_join {sp : Space} {e : EltTy} (c : Dev nD) (m : Memref sig .tc sp S128x512 e) (q : PosShare TreeShare)
    (xs : ∀ i : Fin 2, (hR i).shape.Idx → Elt F e) :
    iprop(own c (m.slice h0 fun _ => rfl) q (xs 0) ∗ own c (m.slice h1 fun _ => rfl) q (xs 1)) ⊢ own c m q (glue hR xs) := by
  have h := own_join c m q hR hR_unit hR_dis hR_cov xs
  rw [bigSep_fin2] at h
  exact h

theorem any_halves {sp : Space} {e : EltTy} (c : Dev nD) (m : Memref sig .tc sp S128x512 e) :
    any (F := F) c m ⊢ iprop(any c (m.slice h0 fun _ => rfl) ∗ any c (m.slice h1 fun _ => rfl)) := by
  have h := any_pieces (F := F) c m hR hR_unit hR_dis hR_cov
  rw [bigSep_fin2] at h
  exact h

theorem any_halves_join {sp : Space} {e : EltTy} (c : Dev nD) (m : Memref sig .tc sp S128x512 e) :
    iprop(any (F := F) c (m.slice h0 fun _ => rfl) ∗ any c (m.slice h1 fun _ => rfl)) ⊢ any c m := by
  have h := any_join (F := F) c m hR hR_unit hR_dis hR_cov
  rw [bigSep_fin2] at h
  exact h

/-- The gathered buffer, of any contents, is its four quarters. -/
theorem any_quarters (c : Dev nD) :
    any (F := F) c sB ⊢ iprop(any c (sB.slice (qR c) (qR_unit c)) ∗ any c (sB.slice (qR (nb 1 c)) (qR_unit _))
      ∗ any c (sB.slice (qR (nb 2 c)) (qR_unit _)) ∗ any c (sB.slice (qR (nb 3 c)) (qR_unit _))) := by
  have h := any_pieces (F := F) c sB (fun i => qR (who i c)) (fun i => qR_unit (who i c)) (qR_dis c) (qR_cov c)
  rw [bigSep_fin4] at h
  exact h

/-- The four quarters are the gathered buffer. -/
theorem quarters_join (I : Dev nD → In F) (c : Dev nD) :
    iprop(own c (sB.slice (qR c) (qR_unit c)) fullShare (sq I c) ∗ own c (sB.slice (qR (nb 1 c)) (qR_unit _)) fullShare (sq I (nb 1 c))
      ∗ own c (sB.slice (qR (nb 2 c)) (qR_unit _)) fullShare (sq I (nb 2 c)) ∗ own c (sB.slice (qR (nb 3 c)) (qR_unit _)) fullShare (sq I (nb 3 c)))
      ⊢ own c sB fullShare (sAll I c) := by
  have h := own_join c sB fullShare (fun i => qR (who i c)) (fun i => qR_unit (who i c)) (qR_dis c) (qR_cov c) (fun i => sq I (who i c))
  rw [bigSep_fin4] at h
  exact h

/-- A box of a held memref may be borrowed. -/
theorem own_borrow {s : Shape} {sp : Space} {e : EltTy} (c : Dev nD) (m : Memref sig .tc sp s e) (r : Rect s) (hr : ∀ a, r.stride a = 1)
    (q : PosShare TreeShare) (x : s.Idx → Elt F e) :
    own c m q x ⊢ iprop(own c (m.slice r hr) q (fun j => x (r.emb j)) ∗ (own c (m.slice r hr) q (fun j => x (r.emb j)) -∗ own c m q x)) := by
  have hpw : (own c (m.slice r hr) q (fun j => x (r.emb j)) : sProp 𝕄)
      = (m.view.loc (c : Thread nD τ) ↦[(m.slice r hr).view.set]{q} m.view.rep x) := by
    refine (pointsTo_congr fun y hy => ?_).symm
    obtain ⟨z, -, rfl⟩ := Finset.mem_map.mp hy
    rw [View.rep_emb]
    show m.view.rep x (m.view.emb (r.emb z)) = _
    rw [View.rep_emb]
  rw [hpw]
  iintro H
  ihave H := (pointsTo_split_subset (View.set_slice_subset m.view r)) $$ H
  icases H with ⟨H1, H2⟩
  isplitl [H1]; · iexact H1
  iintro H1
  iapply (pointsTo_split_subset (View.set_slice_subset m.view r)).2
  isplitl [H1] <;> iassumption

/-- The kernel's two computations of a quarter's rows name one box. -/
theorem own_off3 (c : Dev nD) (q : PosShare TreeShare) (x : S128x512.Idx → Elt F .bf16) :
    (own c (sB.slice (Rect.unit (s := S512x512) (k0_off3 c) S128x512.size (k0_off3_inb c)) fun _ => rfl) q x : sProp 𝕄)
      = own c (sB.slice (qR c) (qR_unit c)) q x :=
  congrArg (fun m : Memref sig .tc .vmem S128x512 .bf16 => (own c m q x : sProp 𝕄))
    (Memref.slice_unit_congr sB ((off3_eq c).trans (off4_eq c).symm) (k0_off3_inb c) (k0_off4_inb c) (fun _ => rfl) (fun _ => rfl))

theorem any_off3 (c : Dev nD) :
    (any c (sB.slice (Rect.unit (s := S512x512) (k0_off3 c) S128x512.size (k0_off3_inb c)) fun _ => rfl) : sProp 𝕄)
      = any c (sB.slice (qR c) (qR_unit c)) :=
  congrArg (fun m : Memref sig .tc .vmem S128x512 .bf16 => (any c m : sProp 𝕄))
    (Memref.slice_unit_congr sB ((off3_eq c).trans (off4_eq c).symm) (k0_off3_inb c) (k0_off4_inb c) (fun _ => rfl) (fun _ => rfl))

/-! ## The amounts of the copies: a box's amount is read of its shape and its buffer alone -/

theorem amt_a (c : Dev nD) : (aB.slice (aR c) (fun _ => rfl)).view.dmaCredit = amt 4 :=
  View.dmaCredit_closed _ S128 rfl aB.view.buf rfl (amt 4) (by decide +kernel)
theorem amt_ar : arB.view.dmaCredit = amt 5 :=
  View.dmaCredit_closed _ S128 rfl arB.view.buf rfl (amt 5) (by decide +kernel)
theorem amt_x0 : (xB.slice h0 (fun _ => rfl)).view.dmaCredit = amt 0 :=
  View.dmaCredit_closed _ S64x512 rfl xB.view.buf rfl (amt 0) (by decide +kernel)
theorem amt_x1 : (xB.slice h1 (fun _ => rfl)).view.dmaCredit = amt 1 :=
  View.dmaCredit_closed _ S64x512 rfl xB.view.buf rfl (amt 1) (by decide +kernel)
theorem amt_xr0 : (xrB.slice h0 (fun _ => rfl)).view.dmaCredit = amt 2 :=
  View.dmaCredit_closed _ S64x512 rfl xrB.view.buf rfl (amt 2) (by decide +kernel)
theorem amt_xr1 : (xrB.slice h1 (fun _ => rfl)).view.dmaCredit = amt 3 :=
  View.dmaCredit_closed _ S64x512 rfl xrB.view.buf rfl (amt 3) (by decide +kernel)
theorem amt_ys0 : (ysB.slice h0 (fun _ => rfl)).view.dmaCredit = amt 6 :=
  View.dmaCredit_closed _ S64x512 rfl ysB.view.buf rfl (amt 6) (by decide +kernel)
theorem amt_ys1 : (ysB.slice h1 (fun _ => rfl)).view.dmaCredit = amt 7 :=
  View.dmaCredit_closed _ S64x512 rfl ysB.view.buf rfl (amt 7) (by decide +kernel)
theorem amt_yr0 : (yrB.slice h0 (fun _ => rfl)).view.dmaCredit = amt 8 :=
  View.dmaCredit_closed _ S64x512 rfl yrB.view.buf rfl (amt 8) (by decide +kernel)
theorem amt_yr1 : (yrB.slice h1 (fun _ => rfl)).view.dmaCredit = amt 9 :=
  View.dmaCredit_closed _ S64x512 rfl yrB.view.buf rfl (amt 9) (by decide +kernel)
theorem amt_s10 (c : Dev nD) : (sB.slice (qR c) (fun _ => rfl)).view.dmaCredit = amt 10 :=
  View.dmaCredit_closed _ S128x512 rfl sB.view.buf rfl (amt 10) (by decide +kernel)
theorem amt_s11 (c : Dev nD) : (sB.slice (qR c) (fun _ => rfl)).view.dmaCredit = amt 11 :=
  View.dmaCredit_closed _ S128x512 rfl sB.view.buf rfl (amt 11) (by decide +kernel)
theorem amt_s12 (c : Dev nD) : (sB.slice (qR c) (fun _ => rfl)).view.dmaCredit = amt 12 :=
  View.dmaCredit_closed _ S128x512 rfl sB.view.buf rfl (amt 12) (by decide +kernel)
theorem amt_s13 (c : Dev nD) : (sB.slice (qR c) (fun _ => rfl)).view.dmaCredit = amt 13 :=
  View.dmaCredit_closed _ S128x512 rfl sB.view.buf rfl (amt 13) (by decide +kernel)
theorem amt_s14 (c : Dev nD) : (sB.slice (qR c) (fun _ => rfl)).view.dmaCredit = amt 14 :=
  View.dmaCredit_closed _ S128x512 rfl sB.view.buf rfl (amt 14) (by decide +kernel)
theorem amt_s15 (c : Dev nD) : (sB.slice (qR c) (fun _ => rfl)).view.dmaCredit = amt 15 :=
  View.dmaCredit_closed _ S128x512 rfl sB.view.buf rfl (amt 15) (by decide +kernel)
theorem amt_out : outB.view.dmaCredit = amt 16 :=
  View.dmaCredit_closed _ S512x512 rfl outB.view.buf rfl (amt 16) (by decide +kernel)

/-! ## What the copies hand over -/

theorem pay_0 (I : Dev nD → In F) (c : Dev nD) : pay I c 0 ⊢ own c (xB.slice h0 fun _ => rfl) fullShare.left (I c).x0 := .rfl
theorem pay_1 (I : Dev nD → In F) (c : Dev nD) : pay I c 1 ⊢ own c (xB.slice h1 fun _ => rfl) fullShare.left (I c).x1 := .rfl
theorem pay_2 (I : Dev nD → In F) (c : Dev nD) : pay I c 2 ⊢ own c (xrB.slice h0 fun _ => rfl) fullShare (I (nb 0 c)).x0 := .rfl
theorem pay_3 (I : Dev nD → In F) (c : Dev nD) : pay I c 3 ⊢ own c (xrB.slice h1 fun _ => rfl) fullShare (I (nb 0 c)).x1 := .rfl
theorem pay_4 (I : Dev nD → In F) (c : Dev nD) : pay I c 4 ⊢ own c (aB.slice (aR c) fun _ => rfl) fullShare.left ((I c).aq c) := .rfl
theorem pay_5 (I : Dev nD → In F) (c : Dev nD) : pay I c 5 ⊢ own c arB fullShare ((I (nb 0 c)).aq (nb 0 c)) := .rfl
theorem pay_6 (I : Dev nD → In F) (c : Dev nD) : pay I c 6 ⊢ own c (ysB.slice h0 fun _ => rfl) fullShare (ys0 I c) := .rfl
theorem pay_7 (I : Dev nD → In F) (c : Dev nD) : pay I c 7 ⊢ own c (ysB.slice h1 fun _ => rfl) fullShare (ys1 I c) := .rfl
theorem pay_8 (I : Dev nD → In F) (c : Dev nD) : pay I c 8 ⊢ own c (yrB.slice h0 fun _ => rfl) fullShare (ys0 I (nb 0 c)) := .rfl
theorem pay_9 (I : Dev nD → In F) (c : Dev nD) : pay I c 9 ⊢ own c (yrB.slice h1 fun _ => rfl) fullShare (ys1 I (nb 0 c)) := .rfl
theorem pay_10 (I : Dev nD → In F) (c : Dev nD) : pay I c 10 ⊢ own c (sB.slice (qR c) (qR_unit c)) shA (sq I c) := .rfl
theorem pay_11 (I : Dev nD → In F) (c : Dev nD) : pay I c 11 ⊢ own c (sB.slice (qR (nb 1 c)) (qR_unit _)) fullShare (sq I (nb 1 c)) := .rfl
theorem pay_12 (I : Dev nD → In F) (c : Dev nD) : pay I c 12 ⊢ own c (sB.slice (qR c) (qR_unit c)) shB (sq I c) := .rfl
theorem pay_13 (I : Dev nD → In F) (c : Dev nD) : pay I c 13 ⊢ own c (sB.slice (qR (nb 2 c)) (qR_unit _)) fullShare (sq I (nb 2 c)) := .rfl
theorem pay_14 (I : Dev nD → In F) (c : Dev nD) : pay I c 14 ⊢ own c (sB.slice (qR c) (qR_unit c)) shC (sq I c) := .rfl
theorem pay_15 (I : Dev nD → In F) (c : Dev nD) : pay I c 15 ⊢ own c (sB.slice (qR (nb 3 c)) (qR_unit _)) fullShare (sq I (nb 3 c)) := .rfl
theorem pay_16 (I : Dev nD → In F) (c : Dev nD) : pay I c 16 ⊢ iprop(own c outB fullShare (outV I c) ∗ own c oB fullShare (outV I c)) := .rfl
theorem barPay_1 (c : Dev nD) : (barPay c 1 : sProp 𝕄) ⊢ iprop(any (F := F) (nb 1 c) (sB.slice (qR c) (qR_unit c)) ∗ reached ER (dcell (nb 1 c) 11) 0) := .rfl
theorem barPay1_intro (c : Dev nD) : iprop(any (F := F) c (sB.slice (qR (nb 1 c)) (qR_unit _)) ∗ reached ER (dcell c 11) 0) ⊢ (barPay (nb 1 c) 1 : sProp 𝕄) := by
  unfold barPay
  simp only [nb_nb]
  exact .rfl
theorem barPay_2 (c : Dev nD) : (barPay c 2 : sProp 𝕄) ⊢ iprop(any (F := F) (nb 2 c) (sB.slice (qR c) (qR_unit c)) ∗ reached ER (dcell (nb 2 c) 13) 0) := .rfl
theorem barPay2_intro (c : Dev nD) : iprop(any (F := F) c (sB.slice (qR (nb 2 c)) (qR_unit _)) ∗ reached ER (dcell c 13) 0) ⊢ (barPay (nb 2 c) 2 : sProp 𝕄) := by
  unfold barPay
  simp only [nb_nb]
  exact .rfl
theorem barPay_3 (c : Dev nD) : (barPay c 3 : sProp 𝕄) ⊢ iprop(any (F := F) (nb 3 c) (sB.slice (qR c) (qR_unit c)) ∗ reached ER (dcell (nb 3 c) 15) 0) := .rfl
theorem barPay3_intro (c : Dev nD) : iprop(any (F := F) c (sB.slice (qR (nb 3 c)) (qR_unit _)) ∗ reached ER (dcell c 15) 0) ⊢ (barPay (nb 3 c) 3 : sProp 𝕄) := by
  unfold barPay
  simp only [nb_nb]
  exact .rfl

end Cert.Moe
-- ==== Proof.BodyA.lean ====
/-
# The body, first third: the barrier, the first sends, the own rows

The parts of the kernel's body in order, each as what it takes and what it leaves.
-/
module

public import proofs.«01_k».proof.Proof.Splits

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Dev nD → In F} {K : GSem nD τ sig → ℕ} {c : Dev nD}

/-- A run that ends with a value ends with any expression of it. -/
theorem ret_as {α : Type} {a : α} {Q : α → sProp 𝕄} (b : α) :
    iprop(⌜a = b⌝ ∗ Q b) ⊢ wp frame (wpE (defs₀ (F := F)) 𝒱₀ (c : Thread nD τ) none) Set.univ (.ret a) Q := by
  iintro ⟨%h, H⟩
  subst h
  rw [wp_ret]
  imodintro
  iexact H

/-- What a partner is given for its landing copies: the five boxes and the cells that count them. -/
theorem barPay0_intro (c : Dev nD) : iprop((any (F := F) c (xrB.slice h0 fun _ => rfl) ∗ any (F := F) c (xrB.slice h1 fun _ => rfl) ∗ any (F := F) c arB
      ∗ any (F := F) c (yrB.slice h0 fun _ => rfl) ∗ any (F := F) c (yrB.slice h1 fun _ => rfl))
      ∗ reached ER (dcell c 2) 0 ∗ reached ER (dcell c 3) 0 ∗ reached ER (dcell c 5) 0 ∗ reached ER (dcell c 8) 0 ∗ reached ER (dcell c 9) 0)
      ⊢ (barPay (nb 0 c) 0 : sProp 𝕄) := by
  unfold barPay
  simp only [nb_nb]
  exact .rfl

/-- What the first copies leave of the partner's landing places. -/
def landing (c : Dev nD) : sProp 𝕄 :=
  iprop((any (nb 0 c) (xrB.slice h1 fun _ => rfl) ∗ any (nb 0 c) arB ∗ any (nb 0 c) (yrB.slice h0 fun _ => rfl) ∗ any (nb 0 c) (yrB.slice h1 fun _ => rfl))
    ∗ reached ER (dcell (nb 0 c) 3) 0 ∗ reached ER (dcell (nb 0 c) 5) 0 ∗ reached ER (dcell (nb 0 c) 8) 0 ∗ reached ER (dcell (nb 0 c) 9) 0)

theorem barPay0_elim (c : Dev nD) : (barPay c 0 : sProp 𝕄)
    ⊢ iprop(any (F := F) (nb 0 c) (xrB.slice h0 fun _ => rfl) ∗ reached ER (dcell (nb 0 c) 2) 0 ∗ landing c) := by
  unfold barPay landing
  iintro ⟨⟨H0, H⟩, H2, Hr⟩
  isplitl [H0]; · iexact H0
  isplitl [H2]; · iexact H2
  isplitl [H] <;> iassumption

/-- The first two signals. -/
theorem part1_run {Q} :
    iprop(env I K ∗ (dutyTok ER (barCell (nb 0 c)) 0 0 ∗ barPay (nb 0 c) 0) ∗ (dutyTok ER (barCell (nb 1 c)) 0 1 ∗ barPay (nb 1 c) 1) ∗ Ow c 12)
      ⊢ iprop((Ow c 10 -∗ Q ⟨c, Scalar.remsi (Scalar.divsi (Dev.word c) 4#32) 2#32, Scalar.remsi (Scalar.divsi (Dev.word c) 2#32) 2#32, zw c,
            Scalar.subi 1#32 (zw c), Scalar.subi 1#32 (Scalar.remsi (Scalar.divsi (Dev.word c) 2#32) 2#32),
            Scalar.subi 1#32 (Scalar.remsi (Scalar.divsi (Dev.word c) 4#32) 2#32), Scalar.subi 1#32 (Scalar.remsi (Scalar.divsi (Dev.word c) 4#32) 2#32),
            Scalar.subi 1#32 (Scalar.remsi (Scalar.divsi (Dev.word c) 2#32) 2#32),
            Scalar.muli (Scalar.addi (Scalar.muli 2#32 (Scalar.remsi (Scalar.divsi (Dev.word c) 4#32) 2#32)) (Scalar.remsi (Scalar.divsi (Dev.word c) 2#32) 2#32)) 128#32,
            Scalar.muli (Scalar.addi (Scalar.muli 2#32 (Scalar.remsi (Scalar.divsi (Dev.word c) 4#32) 2#32)) (Scalar.remsi (Scalar.divsi (Dev.word c) 2#32) 2#32)) 128#32,
            SemArray.scalar (sig.barrier 0 rfl), 4#32⟩)
        -∗ wp frame (wpE (defs₀ (F := F)) 𝒱₀ (c : Thread nD τ) none) Set.univ (k0_part1 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6) Q) := by
  rw [k0_part1_eq_skeleton]
  unfold k0_part1_skel
  simp only [semSignalWord, semWaitWord, Prog.lift, Prog.bind_op, Prog.bind_ret, Prog.pure_eq_ret, Prog.bind_assoc, wp_deviceId]
  iintro ⟨#He, ⟨Ht0, Hp0⟩, ⟨Ht1, Hp1⟩, HO⟩ Hk
  iapply (signalD (dev1_eq c) 11 rfl) $$ [Ht0 Hp0 HO]
  · isplitr; · iexact He
    isplitl [Ht0]; · iexact Ht0
    isplitl [Hp0]; · iexact Hp0
    iexact HO
  iintro HO
  iapply (signalD (dev2_eq c) 10 rfl) $$ [Ht1 Hp1 HO]
  · isplitr; · iexact He
    isplitl [Ht1]; · iexact Ht1
    isplitl [Hp1]; · iexact Hp1
    iexact HO
  iintro HO
  iapply (ret_as ⟨c, Scalar.remsi (Scalar.divsi (Dev.word c) 4#32) 2#32, Scalar.remsi (Scalar.divsi (Dev.word c) 2#32) 2#32, zw c,
              Scalar.subi 1#32 (zw c), Scalar.subi 1#32 (Scalar.remsi (Scalar.divsi (Dev.word c) 2#32) 2#32),
              Scalar.subi 1#32 (Scalar.remsi (Scalar.divsi (Dev.word c) 4#32) 2#32), Scalar.subi 1#32 (Scalar.remsi (Scalar.divsi (Dev.word c) 4#32) 2#32),
              Scalar.subi 1#32 (Scalar.remsi (Scalar.divsi (Dev.word c) 2#32) 2#32),
              Scalar.muli (Scalar.addi (Scalar.muli 2#32 (Scalar.remsi (Scalar.divsi (Dev.word c) 4#32) 2#32)) (Scalar.remsi (Scalar.divsi (Dev.word c) 2#32) 2#32)) 128#32,
              Scalar.muli (Scalar.addi (Scalar.muli 2#32 (Scalar.remsi (Scalar.divsi (Dev.word c) 4#32) 2#32)) (Scalar.remsi (Scalar.divsi (Dev.word c) 2#32) 2#32)) 128#32,
              SemArray.scalar (sig.barrier 0 rfl), 4#32⟩)
  isplitr; · ipureintro; rfl
  iapply Hk
  iexact HO

/-- The last two signals, the wait, and the first rows sent. -/
theorem part2_run {Q} (v2 v5 v8 v9 v11 v12 v13 : BitVec 32) :
    iprop(env I K ∗ (dutyTok ER (barCell (nb 2 c)) 0 2 ∗ barPay (nb 2 c) 2) ∗ (dutyTok ER (barCell (nb 3 c)) 0 3 ∗ barPay (nb 3 c) 3)
        ∗ (atPos ER (barCell c) 0 ∅ 0 ∗ cred (tallyAt (barCell c) () 4))
        ∗ (own c (xB.slice h0 fun _ => rfl) fullShare.left (I c).x0 ∗ Pr c 0 ∗ dutyTok ER (dcell (nb 0 c) 2) 0 0) ∗ Ow c 10)
      ⊢ iprop(((atPos ER (barCell c) (0 + 1) ∅ 0 ∗ Wt c 0 ∗ landing c ∗ (barPay c 1 ∗ barPay c 2 ∗ barPay c 3) ∗ Ow c 7) -∗ Q ⟨⟩)
        -∗ wp frame (wpE (defs₀ (F := F)) 𝒱₀ (c : Thread nD τ) none) Set.univ (k0_part2 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 c v2 v5 v8 v9 v11 v12 v13 (SemArray.scalar (sig.barrier 0 rfl)) 4#32) Q) := by
  rw [k0_part2_eq_skeleton]
  unfold k0_part2_skel
  simp only [semSignalWord, semWaitWord, Prog.lift, Prog.bind_op, Prog.bind_ret, Prog.pure_eq_ret, Prog.bind_assoc, wp_deviceId]
  iintro ⟨#He, ⟨Ht2, Hp2⟩, ⟨Ht3, Hp3⟩, Hbar, ⟨Hx, Hs, Ht⟩, HO⟩ Hk
  iapply (signalD (dev3_eq c) 9 rfl) $$ [Ht2 Hp2 HO]
  · isplitr; · iexact He
    isplitl [Ht2]; · iexact Ht2
    isplitl [Hp2]; · iexact Hp2
    iexact HO
  iintro HO
  iapply (signalD (dev4_eq c) 8 rfl) $$ [Ht3 Hp3 HO]
  · isplitr; · iexact He
    isplitl [Ht3]; · iexact Ht3
    isplitl [Hp3]; · iexact Hp3
    iexact HO
  iintro HO
  iapply (waitBar) $$ [Hbar HO]
  · isplitr; · iexact He
    isplitl [Hbar]; · iexact Hbar
    iexact HO
  iintro ⟨Hbar, ⟨Hb0, Hb⟩, HO⟩
  ihave Hb0 := (barPay0_elim c) $$ Hb0
  icases Hb0 with ⟨Hl0, #Hr2, Hl⟩
  iapply (sendD (dev5_eq c) 0 2 7 (x := (I c).x0) rfl rfl amt_xr0 .rfl (by unfold pay; simp only [nb_nb]; exact .rfl)) $$ [Hx Hl0 Hs Ht HO]
  · isplitr; · iexact He
    isplitl [Hx]; · iexact Hx
    isplitl [Hl0]; · iexact Hl0
    isplitl [Hs]; · iexact Hs
    isplitl [Ht]; · iexact Ht
    isplitr; · iexact Hr2
    iexact HO
  iintro ⟨HW, HO⟩
  iapply (ret_as ⟨⟩)
  isplitr; · ipureintro; rfl
  iapply Hk
  isplitl [Hbar]; · iexact Hbar
  isplitl [HW]; · iexact HW
  isplitl [Hl]; · iexact Hl
  isplitl [Hb]; · iexact Hb
  iexact HO

/-- What is left of the landing places after part 3: the results' halves. -/
def landY (c : Dev nD) : sProp 𝕄 :=
  iprop((any (nb 0 c) (yrB.slice h0 fun _ => rfl) ∗ reached ER (dcell (nb 0 c) 8) 0) ∗ any (nb 0 c) (yrB.slice h1 fun _ => rfl) ∗ reached ER (dcell (nb 0 c) 9) 0)

/-- The other rows and the assignments sent; the loads for the first expert. -/
theorem part3_run {Q} (v2 v5 v9 v17 : BitVec 32) :
    iprop(env I K ∗ landing c ∗ (own c (xB.slice h1 fun _ => rfl) fullShare.left (I c).x1 ∗ Pr c 1 ∗ dutyTok ER (dcell (nb 0 c) 3) 0 0)
        ∗ (own c (aB.slice (aR c) fun _ => rfl) fullShare.left ((I c).aq c) ∗ Pr c 4 ∗ dutyTok ER (dcell (nb 0 c) 5) 0 0)
        ∗ (own c xB fullShare.right (I c).x ∗ own c aB fullShare.right (I c).a ∗ own c uB fullShare (I c).u) ∗ Ow c 7)
      ⊢ iprop(((landY c ∗ (Wt c 1 ∗ Wt c 4) ∗ (own c xB fullShare.right (I c).x ∗ own c aB fullShare.right (I c).a ∗ own c uB fullShare (I c).u) ∗ Ow c 5)
          -∗ Q ⟨ew c, k0_pay2 (I c).xL, k0_pay3 (F := F) ((I c).aL c), k0_pay4 (F := F), k0_pay5 (zw c) (I c).xL ((I c).aL c) (I c).u0⟩)
        -∗ wp frame (wpE (defs₀ (F := F)) 𝒱₀ (c : Thread nD τ) none) Set.univ (k0_part3 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 c v2 v5 (zw c) v9 v17) Q) := by
  rw [k0_part3_eq_skeleton]
  unfold k0_part3_skel
  simp only [semSignalWord, semWaitWord, Prog.lift, Prog.bind_op, Prog.bind_ret, Prog.pure_eq_ret, Prog.bind_assoc, wp_deviceId]
  iintro ⟨#He, Hl, ⟨Hx, Hs, Ht⟩, ⟨Ha, Hs', Ht'⟩, ⟨HxR, HaR, Hu⟩, HO⟩ Hk
  unfold landing landY
  icases Hl with ⟨⟨Hl1, Hl2, Hl3, Hl4⟩, #Hr3, #Hr5, Hr8, Hr9⟩
  iapply (sendD (dev6_eq c) 1 3 6 (x := (I c).x1) rfl rfl amt_xr1 .rfl (by unfold pay; simp only [nb_nb]; exact .rfl)) $$ [Hx Hl1 Hs Ht HO]
  · isplitr; · iexact He
    isplitl [Hx]; · iexact Hx
    isplitl [Hl1]; · iexact Hl1
    isplitl [Hs]; · iexact Hs
    isplitl [Ht]; · iexact Ht
    isplitr; · iexact Hr3
    iexact HO
  iintro ⟨HW, HO⟩
  iapply (sendD (dev7_eq c) 4 5 5 (x := (I c).aq c) rfl rfl amt_ar .rfl (by unfold pay; simp only [nb_nb]; exact .rfl)) $$ [Ha Hl2 Hs' Ht' HO]
  · isplitr; · iexact He
    isplitl [Ha]; · iexact Ha
    isplitl [Hl2]; · iexact Hl2
    isplitl [Hs']; · iexact Hs'
    isplitl [Ht']; · iexact Ht'
    isplitr; · iexact Hr5
    iexact HO
  iintro ⟨HW', HO⟩
  iapply (load_own (_) ((I c).x)) $$ HxR
  iintro HxR
  iapply (load_own (_) ((I c).a)) $$ HaR
  iintro HaR
  iapply (load_own (_) ((I c).u)) $$ Hu
  iintro Hu
  iapply (ret_as ⟨ew c, k0_pay2 (I c).xL, k0_pay3 (F := F) ((I c).aL c), k0_pay4 (F := F), k0_pay5 (zw c) (I c).xL ((I c).aL c) (I c).u0⟩)
  isplitr; · ipureintro; rfl
  iapply Hk
  isplitl [Hl3 Hl4 Hr8 Hr9]
  · isplitl [Hl3 Hr8]
    · isplitl [Hl3] <;> iassumption
    isplitl [Hl4] <;> iassumption
  isplitl [HW HW']
  · isplitl [HW] <;> iassumption
  isplitl [HxR HaR Hu]
  · isplitl [HxR]; · iexact HxR
    isplitl [HaR]; · iexact HaR
    iexact Hu
  iexact HO

/-- The own rows through the own experts, stored in the own quarter; the assignments' copy done. -/
theorem part4_run {Q} (v2 v5 v16 : BitVec 32) :
    iprop(env I K ∗ (own c uB fullShare (I c).u ∗ own c wB fullShare (I c).w) ∗ any (F := F) c (sB.slice (qR c) (qR_unit c)) ∗ Wt c 4 ∗ Ow c 5)
      ⊢ iprop((((own c uB fullShare (I c).u ∗ own c wB fullShare (I c).w) ∗ own c (sB.slice (qR c) (qR_unit c)) fullShare (own0 I c)
            ∗ Dn c 4 ∗ own c (aB.slice (aR c) fun _ => rfl) fullShare.left ((I c).aq c) ∗ Ow c 5)
          -∗ Q (Scalar.addi (Scalar.addi 0#32 (Scalar.muli v2 4#32)) (Scalar.muli v5 2#32)))
        -∗ wp frame (wpE (defs₀ (F := F)) 𝒱₀ (c : Thread nD τ) none) Set.univ (k0_part4 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 c v2 v5 v16 (ew c) (k0_pay2 (I c).xL) (k0_pay3 (F := F) ((I c).aL c)) (k0_pay4 (F := F))
            (k0_pay5 (zw c) (I c).xL ((I c).aL c) (I c).u0)) Q) := by
  rw [k0_part4_eq_skeleton]
  unfold k0_part4_skel
  simp only [semSignalWord, semWaitWord, Prog.lift, Prog.bind_op, Prog.bind_ret, Prog.pure_eq_ret, Prog.bind_assoc, wp_deviceId]
  iintro ⟨#He, ⟨Hu, Hw⟩, Hs, HW, HO⟩ Hk
  ihave Hs := (BIBase.Entails.of_eq (any_off3 c).symm) $$ Hs
  iapply (load_own (_) ((I c).w)) $$ Hw
  iintro Hw
  iapply (load_own (_) ((I c).u)) $$ Hu
  iintro Hu
  iapply (load_own (_) ((I c).w)) $$ Hw
  iintro Hw
  ihave Hs := (any_own c _) $$ Hs
  icases Hs with ⟨%x, Hs⟩
  iapply (load_slice (fun _ => rfl) fullShare x) $$ Hs
  iintro Hs
  ihave Hs := (own_any c _ _) $$ Hs
  iapply (store_slice (fun _ => rfl)) $$ Hs
  iintro Hs
  ihave Hs := (BIBase.Entails.of_eq (own_off3 c fullShare _)) $$ Hs
  iapply (waitD 4 5 (fun j hj => (by decide : ∀ j < 5, dlev 4 < dueLev j) j hj) (amt_a c)) $$ [HW HO]
  · isplitr; · iexact He
    isplitl [HW]; · iexact HW
    iexact HO
  iintro ⟨HD, HP, HO⟩
  ihave HP := (pay_4 I c) $$ HP
  iapply (ret_as (Scalar.addi (Scalar.addi 0#32 (Scalar.muli v2 4#32)) (Scalar.muli v5 2#32)))
  isplitr; · ipureintro; rfl
  iapply Hk
  isplitl [Hu Hw]
  · isplitl [Hu] <;> iassumption
  isplitl [Hs]; · iexact Hs
  isplitl [HD]; · iexact HD
  isplitl [HP]; · iexact HP
  iexact HO

end Cert.Moe
-- ==== Proof.BodyB.lean ====
/-
# The body, second third: the partner's rows

The partner's rows and assignments arrive; the own experts are applied to them, a half at a time, and sent back.
-/
module

public import proofs.«01_k».proof.Proof.BodyA

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Dev nD → In F} {K : GSem nD τ sig → ℕ} {c : Dev nD}

/-- The assignments' copies and the upper rows' copies are done. -/
theorem part5_run {Q} (v2 v5 v9 v131 : BitVec 32) :
    iprop(env I K ∗ (Wt c 5 ∗ Wt c 0 ∗ Wt c 2) ∗ Ow c 5)
      ⊢ iprop((((Dn c 5 ∗ Dn c 0 ∗ Dn c 2) ∗ own c arB fullShare ((I (nb 0 c)).aq (nb 0 c)) ∗ own c (xB.slice h0 fun _ => rfl) fullShare.left (I c).x0
            ∗ own c (xrB.slice h0 fun _ => rfl) fullShare (I (nb 0 c)).x0 ∗ Ow c 5)
          -∗ Q ⟨(I (nb 0 c)).x0, k0_pay7 (F := F) ((I (nb 0 c)).a0 (nb 0 c)), k0_pay8 (F := F), k0_pay9 (ew c) (I (nb 0 c)).x0 ((I (nb 0 c)).a0 (nb 0 c))⟩)
        -∗ wp frame (wpE (defs₀ (F := F)) 𝒱₀ (c : Thread nD τ) none) Set.univ (k0_part5 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 c v2 v5 v9 (ew c) v131) Q) := by
  rw [k0_part5_eq_skeleton]
  unfold k0_part5_skel
  simp only [semSignalWord, semWaitWord, Prog.lift, Prog.bind_op, Prog.bind_ret, Prog.pure_eq_ret, Prog.bind_assoc, wp_deviceId]
  iintro ⟨#He, ⟨HW5, HW0, HW2⟩, HO⟩ Hk
  iapply (waitD 5 5 (fun j hj => (by decide : ∀ j < 5, dlev 5 < dueLev j) j hj) amt_ar) $$ [HW5 HO]
  · isplitr; · iexact He
    isplitl [HW5]; · iexact HW5
    iexact HO
  iintro ⟨HD5, HP5, HO⟩
  ihave HP5 := (pay_5 I c) $$ HP5
  iapply (waitD 0 5 (fun j hj => (by decide : ∀ j < 5, dlev 0 < dueLev j) j hj) amt_x0) $$ [HW0 HO]
  · isplitr; · iexact He
    isplitl [HW0]; · iexact HW0
    iexact HO
  iintro ⟨HD0, HP0, HO⟩
  ihave HP0 := (pay_0 I c) $$ HP0
  iapply (waitD 2 5 (fun j hj => (by decide : ∀ j < 5, dlev 2 < dueLev j) j hj) amt_xr0) $$ [HW2 HO]
  · isplitr; · iexact He
    isplitl [HW2]; · iexact HW2
    iexact HO
  iintro ⟨HD2, HP2, HO⟩
  ihave HP2 := (pay_2 I c) $$ HP2
  iapply (load_slice (fun _ => rfl) fullShare (I (nb 0 c)).x0) $$ HP2
  iintro HP2
  iapply (load_own (_) ((I (nb 0 c)).aq (nb 0 c))) $$ HP5
  iintro HP5
  iapply (ret_as ⟨(I (nb 0 c)).x0, k0_pay7 (F := F) ((I (nb 0 c)).a0 (nb 0 c)), k0_pay8 (F := F), k0_pay9 (ew c) (I (nb 0 c)).x0 ((I (nb 0 c)).a0 (nb 0 c))⟩)
  isplitr; · ipureintro; rfl
  iapply Hk
  isplitl [HD5 HD0 HD2]
  · isplitl [HD5]; · iexact HD5
    isplitl [HD0] <;> iassumption
  isplitl [HP5]; · iexact HP5
  isplitl [HP0]; · iexact HP0
  isplitl [HP2]; · iexact HP2
  iexact HO

/-- The own experts on the partner's upper rows. -/
theorem part6_run {Q} (v2 v5 : BitVec 32) :
    iprop((own c uB fullShare (I c).u ∗ own c wB fullShare (I c).w) ∗ any (F := F) c (ysB.slice h0 fun _ => rfl))
      ⊢ iprop((((own c uB fullShare (I c).u ∗ own c wB fullShare (I c).w) ∗ own c (ysB.slice h0 fun _ => rfl) fullShare (ys0 I c)) -∗ Q (Scalar.addi (Scalar.addi 0#32 (Scalar.muli v2 4#32)) (Scalar.muli v5 2#32)))
        -∗ wp frame (wpE (defs₀ (F := F)) 𝒱₀ (c : Thread nD τ) none) Set.univ (k0_part6 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 v2 v5 (ew c) (I (nb 0 c)).x0 (k0_pay7 (F := F) ((I (nb 0 c)).a0 (nb 0 c))) (k0_pay8 (F := F))
          (k0_pay9 (ew c) (I (nb 0 c)).x0 ((I (nb 0 c)).a0 (nb 0 c)))) Q) := by
  rw [k0_part6_eq_skeleton]
  unfold k0_part6_skel
  simp only [semSignalWord, semWaitWord, Prog.lift, Prog.bind_op, Prog.bind_ret, Prog.pure_eq_ret, Prog.bind_assoc, wp_deviceId]
  iintro ⟨⟨Hu, Hw⟩, Hs⟩ Hk
  iapply (load_own (_) ((I c).u)) $$ Hu
  iintro Hu
  iapply (load_own (_) ((I c).w)) $$ Hw
  iintro Hw
  iapply (load_own (_) ((I c).u)) $$ Hu
  iintro Hu
  iapply (load_own (_) ((I c).w)) $$ Hw
  iintro Hw
  ihave Hs := (any_own c _) $$ Hs
  icases Hs with ⟨%x, Hs⟩
  iapply (load_slice (fun _ => rfl) fullShare x) $$ Hs
  iintro Hs
  ihave Hs := (own_any c _ _) $$ Hs
  iapply (store_slice (fun _ => rfl)) $$ Hs
  iintro Hs
  iapply (ret_as (Scalar.addi (Scalar.addi 0#32 (Scalar.muli v2 4#32)) (Scalar.muli v5 2#32)))
  isplitr; · ipureintro; rfl
  iapply Hk
  isplitl [Hu Hw]
  · isplitl [Hu] <;> iassumption
  iexact Hs

/-- The upper results sent back; the lower rows' copies are done. -/
theorem part7_run {Q} (v2 v5 v9 v196 : BitVec 32) :
    iprop(env I K ∗ landY c ∗ (own c (ysB.slice h0 fun _ => rfl) fullShare (ys0 I c) ∗ Pr c 6 ∗ dutyTok ER (dcell (nb 0 c) 8) 0 0)
        ∗ (Wt c 1 ∗ Wt c 3) ∗ own c arB fullShare ((I (nb 0 c)).aq (nb 0 c)) ∗ Ow c 5)
      ⊢ iprop(((Wt c 6 ∗ (any (nb 0 c) (yrB.slice h1 fun _ => rfl) ∗ reached ER (dcell (nb 0 c) 9) 0) ∗ (Dn c 1 ∗ Dn c 3)
            ∗ own c arB fullShare ((I (nb 0 c)).aq (nb 0 c)) ∗ own c (xB.slice h1 fun _ => rfl) fullShare.left (I c).x1
            ∗ own c (xrB.slice h1 fun _ => rfl) fullShare (I (nb 0 c)).x1 ∗ Ow c 4)
          -∗ Q ⟨(I (nb 0 c)).x1, k0_pay11 (F := F) ((I (nb 0 c)).a1 (nb 0 c)), k0_pay12 (F := F), k0_pay13 (F := F) (ew c) ((I (nb 0 c)).a1 (nb 0 c)), Scalar.ofBits .bf16 0x0000#16⟩)
        -∗ wp frame (wpE (defs₀ (F := F)) 𝒱₀ (c : Thread nD τ) none) Set.univ (k0_part7 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 c v2 v5 v9 (ew c) v196) Q) := by
  rw [k0_part7_eq_skeleton]
  unfold k0_part7_skel
  simp only [semSignalWord, semWaitWord, Prog.lift, Prog.bind_op, Prog.bind_ret, Prog.pure_eq_ret, Prog.bind_assoc, wp_deviceId]
  iintro ⟨#He, Hl, ⟨Hy, Hs, Ht⟩, ⟨HW1, HW3⟩, HP5, HO⟩ Hk
  unfold landY
  icases Hl with ⟨⟨Hl0, #Hr8⟩, Hl⟩
  iapply (sendD (dev8_eq c) 6 8 4 (x := ys0 I c) rfl rfl amt_yr0 .rfl (by unfold pay; simp only [nb_nb]; exact .rfl)) $$ [Hy Hl0 Hs Ht HO]
  · isplitr; · iexact He
    isplitl [Hy]; · iexact Hy
    isplitl [Hl0]; · iexact Hl0
    isplitl [Hs]; · iexact Hs
    isplitl [Ht]; · iexact Ht
    isplitr; · iexact Hr8
    iexact HO
  iintro ⟨HW6, HO⟩
  iapply (waitD 1 4 (fun j hj => (by decide : ∀ j < 4, dlev 1 < dueLev j) j hj) amt_x1) $$ [HW1 HO]
  · isplitr; · iexact He
    isplitl [HW1]; · iexact HW1
    iexact HO
  iintro ⟨HD1, HP1, HO⟩
  ihave HP1 := (pay_1 I c) $$ HP1
  iapply (waitD 3 4 (fun j hj => (by decide : ∀ j < 4, dlev 3 < dueLev j) j hj) amt_xr1) $$ [HW3 HO]
  · isplitr; · iexact He
    isplitl [HW3]; · iexact HW3
    iexact HO
  iintro ⟨HD3, HP3, HO⟩
  ihave HP3 := (pay_3 I c) $$ HP3
  iapply (load_slice (fun _ => rfl) fullShare (I (nb 0 c)).x1) $$ HP3
  iintro HP3
  iapply (load_own (_) ((I (nb 0 c)).aq (nb 0 c))) $$ HP5
  iintro HP5
  iapply (ret_as ⟨(I (nb 0 c)).x1, k0_pay11 (F := F) ((I (nb 0 c)).a1 (nb 0 c)), k0_pay12 (F := F), k0_pay13 (F := F) (ew c) ((I (nb 0 c)).a1 (nb 0 c)), Scalar.ofBits .bf16 0x0000#16⟩)
  isplitr; · ipureintro; rfl
  iapply Hk
  isplitl [HW6]; · iexact HW6
  isplitl [Hl]; · iexact Hl
  isplitl [HD1 HD3]
  · isplitl [HD1] <;> iassumption
  isplitl [HP5]; · iexact HP5
  isplitl [HP1]; · iexact HP1
  isplitl [HP3]; · iexact HP3
  iexact HO

/-- The own experts on the partner's lower rows. -/
theorem part8_run {Q} :
    iprop((own c uB fullShare (I c).u ∗ own c wB fullShare (I c).w) ∗ any (F := F) c (ysB.slice h1 fun _ => rfl))
      ⊢ iprop((((own c uB fullShare (I c).u ∗ own c wB fullShare (I c).w) ∗ own c (ysB.slice h1 fun _ => rfl) fullShare (ys1 I c)) -∗ Q ⟨⟩)
        -∗ wp frame (wpE (defs₀ (F := F)) 𝒱₀ (c : Thread nD τ) none) Set.univ (k0_part8 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 (ew c) (I (nb 0 c)).x1 (k0_pay11 (F := F) ((I (nb 0 c)).a1 (nb 0 c))) (k0_pay12 (F := F))
          (k0_pay13 (F := F) (ew c) ((I (nb 0 c)).a1 (nb 0 c))) (Scalar.ofBits .bf16 0x0000#16)) Q) := by
  rw [k0_part8_eq_skeleton]
  unfold k0_part8_skel
  simp only [semSignalWord, semWaitWord, Prog.lift, Prog.bind_op, Prog.bind_ret, Prog.pure_eq_ret, Prog.bind_assoc, wp_deviceId]
  iintro ⟨⟨Hu, Hw⟩, Hs⟩ Hk
  iapply (load_own (_) ((I c).u)) $$ Hu
  iintro Hu
  iapply (load_own (_) ((I c).w)) $$ Hw
  iintro Hw
  iapply (load_own (_) ((I c).u)) $$ Hu
  iintro Hu
  iapply (load_own (_) ((I c).w)) $$ Hw
  iintro Hw
  ihave Hs := (any_own c _) $$ Hs
  icases Hs with ⟨%x, Hs⟩
  iapply (load_slice (fun _ => rfl) fullShare x) $$ Hs
  iintro Hs
  ihave Hs := (own_any c _ _) $$ Hs
  iapply (store_slice (fun _ => rfl)) $$ Hs
  iintro Hs
  iapply (ret_as ⟨⟩)
  isplitr; · ipureintro; rfl
  iapply Hk
  isplitl [Hu Hw]
  · isplitl [Hu] <;> iassumption
  iexact Hs

end Cert.Moe
-- ==== Proof.BodyC.lean ====
/-
# The body, last third: the own quarter completed, exchanged and gathered

The partner's results are added to the own ones, the quarter is sent to the three partners in the other quarters,
and the four quarters are written out in single precision.
-/
module

public import proofs.«01_k».proof.Proof.BodyB

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Dev nD → In F} {K : GSem nD τ sig → ℕ} {c : Dev nD}

/-- The lower results sent back; the upper results' copies are done. -/
theorem part9_run {Q} (v2 v5 v9 : BitVec 32) :
    iprop(env I K ∗ (any (nb 0 c) (yrB.slice h1 fun _ => rfl) ∗ reached ER (dcell (nb 0 c) 9) 0)
        ∗ (own c (ysB.slice h1 fun _ => rfl) fullShare (ys1 I c) ∗ Pr c 7 ∗ dutyTok ER (dcell (nb 0 c) 9) 0 0) ∗ (Wt c 6 ∗ Wt c 8) ∗ Ow c 4)
      ⊢ iprop(((Wt c 7 ∗ (Dn c 6 ∗ Dn c 8) ∗ own c (ysB.slice h0 fun _ => rfl) fullShare (ys0 I c)
            ∗ own c (yrB.slice h0 fun _ => rfl) fullShare (ys0 I (nb 0 c)) ∗ Ow c 3) -∗ Q ⟨⟩)
        -∗ wp frame (wpE (defs₀ (F := F)) 𝒱₀ (c : Thread nD τ) none) Set.univ (k0_part9 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 c v2 v5 v9) Q) := by
  rw [k0_part9_eq_skeleton]
  unfold k0_part9_skel
  simp only [semSignalWord, semWaitWord, Prog.lift, Prog.bind_op, Prog.bind_ret, Prog.pure_eq_ret, Prog.bind_assoc, wp_deviceId]
  iintro ⟨#He, ⟨Hl, #Hr9⟩, ⟨Hy, Hs, Ht⟩, ⟨HW6, HW8⟩, HO⟩ Hk
  iapply (sendD (dev9_eq c) 7 9 3 (x := ys1 I c) rfl rfl amt_yr1 .rfl (by unfold pay; simp only [nb_nb]; exact .rfl)) $$ [Hy Hl Hs Ht HO]
  · isplitr; · iexact He
    isplitl [Hy]; · iexact Hy
    isplitl [Hl]; · iexact Hl
    isplitl [Hs]; · iexact Hs
    isplitl [Ht]; · iexact Ht
    isplitr; · iexact Hr9
    iexact HO
  iintro ⟨HW7, HO⟩
  iapply (waitD 6 3 (fun j hj => (by decide : ∀ j < 3, dlev 6 < dueLev j) j hj) amt_ys0) $$ [HW6 HO]
  · isplitr; · iexact He
    isplitl [HW6]; · iexact HW6
    iexact HO
  iintro ⟨HD6, HP6, HO⟩
  ihave HP6 := (pay_6 I c) $$ HP6
  iapply (waitD 8 3 (fun j hj => (by decide : ∀ j < 3, dlev 8 < dueLev j) j hj) amt_yr0) $$ [HW8 HO]
  · isplitr; · iexact He
    isplitl [HW8]; · iexact HW8
    iexact HO
  iintro ⟨HD8, HP8, HO⟩
  ihave HP8 := (pay_8 I c) $$ HP8
  iapply (ret_as ⟨⟩)
  isplitr; · ipureintro; rfl
  iapply Hk
  isplitl [HW7]; · iexact HW7
  isplitl [HD6 HD8]
  · isplitl [HD6] <;> iassumption
  isplitl [HP6]; · iexact HP6
  isplitl [HP8]; · iexact HP8
  iexact HO

/-- The two halves of the partner's results are what the partner computes of the own rows. -/
theorem yr_join : iprop(own c (yrB.slice h0 fun _ => rfl) fullShare (ys0 I (nb 0 c)) ∗ own c (yrB.slice h1 fun _ => rfl) fullShare (ys1 I (nb 0 c)))
    ⊢ (own c yrB fullShare (yr I c) : sProp 𝕄) := halves_join c yrB fullShare (ysR I (nb 0 c))

/-- The own rows completed by the partner's results. -/
theorem part10_run {Q} (v2 v5 v8 v9 v10 v16 : BitVec 32) :
    iprop(env I K ∗ (Wt c 7 ∗ Wt c 9) ∗ own c (yrB.slice h0 fun _ => rfl) fullShare (ys0 I (nb 0 c))
        ∗ own c (sB.slice (qR c) (qR_unit c)) fullShare (own0 I c) ∗ Ow c 3)
      ⊢ iprop((((Dn c 7 ∗ Dn c 9) ∗ own c (ysB.slice h1 fun _ => rfl) fullShare (ys1 I c) ∗ own c yrB fullShare (yr I c)
            ∗ own c (sB.slice (qR c) (qR_unit c)) fullShare (sq I c) ∗ Ow c 3) -∗ Q ⟨⟩)
        -∗ wp frame (wpE (defs₀ (F := F)) 𝒱₀ (c : Thread nD τ) none) Set.univ (k0_part10 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 c v2 v5 v8 v9 v10 v16) Q) := by
  rw [k0_part10_eq_skeleton]
  unfold k0_part10_skel
  simp only [semSignalWord, semWaitWord, Prog.lift, Prog.bind_op, Prog.bind_ret, Prog.pure_eq_ret, Prog.bind_assoc, wp_deviceId]
  iintro ⟨#He, ⟨HW7, HW9⟩, HP8, Hs, HO⟩ Hk
  iapply (waitD 7 3 (fun j hj => (by decide : ∀ j < 3, dlev 7 < dueLev j) j hj) amt_ys1) $$ [HW7 HO]
  · isplitr; · iexact He
    isplitl [HW7]; · iexact HW7
    iexact HO
  iintro ⟨HD7, HP7, HO⟩
  ihave HP7 := (pay_7 I c) $$ HP7
  iapply (waitD 9 3 (fun j hj => (by decide : ∀ j < 3, dlev 9 < dueLev j) j hj) amt_yr1) $$ [HW9 HO]
  · isplitr; · iexact He
    isplitl [HW9]; · iexact HW9
    iexact HO
  iintro ⟨HD9, HP9, HO⟩
  ihave HP9 := (pay_9 I c) $$ HP9
  ihave Hy := (yr_join (I := I) (c := c)) $$ [HP8 HP9]
  · isplitl [HP8] <;> iassumption
  ihave Hs := (BIBase.Entails.of_eq (own_off3 c fullShare (own0 I c)).symm) $$ Hs
  iapply (load_slice (fun _ => rfl) fullShare (own0 I c)) $$ Hs
  iintro Hs
  iapply (load_own (_) (yr I c)) $$ Hy
  iintro Hy
  iapply (load_slice (fun _ => rfl) fullShare (own0 I c)) $$ Hs
  iintro Hs
  ihave Hs := (own_any c _ _) $$ Hs
  iapply (store_slice (fun _ => rfl)) $$ Hs
  iintro Hs
  ihave Hs := (BIBase.Entails.of_eq (own_off3 c fullShare _)) $$ Hs
  iapply (ret_as ⟨⟩)
  isplitr; · ipureintro; rfl
  iapply Hk
  isplitl [HD7 HD9]
  · isplitl [HD7] <;> iassumption
  isplitl [HP7]; · iexact HP7
  isplitl [Hy]; · iexact Hy
  isplitl [Hs]; · iexact Hs
  iexact HO

/-- A quarter named by equal devices. -/
theorem quarter_at (I : Dev nD → In F) (e : Dev nD) {c d : Dev nD} (h : d = c) :
    (own e (sB.slice (qR c) fun _ => rfl) fullShare (sq I c) : sProp 𝕄) ⊢ own e (sB.slice (qR d) (qR_unit d)) fullShare (sq I d) := by
  subst h
  exact .rfl

theorem land_11 (I : Dev nD → In F) (c : Dev nD) : (own (nb 1 c) (sB.slice (qR c) (fun _ => rfl)) fullShare (sq I c) : sProp 𝕄) ⊢ pay I (nb 1 c) 11 :=
  quarter_at I (nb 1 c) (nb_nb 1 c)
theorem land_13 (I : Dev nD → In F) (c : Dev nD) : (own (nb 2 c) (sB.slice (qR c) (fun _ => rfl)) fullShare (sq I c) : sProp 𝕄) ⊢ pay I (nb 2 c) 13 :=
  quarter_at I (nb 2 c) (nb_nb 2 c)
theorem land_15 (I : Dev nD → In F) (c : Dev nD) : (own (nb 3 c) (sB.slice (qR c) (fun _ => rfl)) fullShare (sq I c) : sProp 𝕄) ⊢ pay I (nb 3 c) 15 :=
  quarter_at I (nb 3 c) (nb_nb 3 c)

/-- The three sends of the own quarter, each from a share of it. -/
theorem part11_run {Q} (v2 v5 v8 v11 v12 v13 : BitVec 32) :
    iprop(env I K ∗ (barPay c 1 ∗ barPay c 2 ∗ barPay c 3) ∗ own c (sB.slice (qR c) (qR_unit c)) fullShare (sq I c)
        ∗ (Pr c 10 ∗ Pr c 12 ∗ Pr c 14)
        ∗ (dutyTok ER (dcell (nb 1 c) 11) 0 0 ∗ dutyTok ER (dcell (nb 2 c) 13) 0 0 ∗ dutyTok ER (dcell (nb 3 c) 15) 0 0) ∗ Ow c 3)
      ⊢ iprop(((Dn c 10 ∗ own c (sB.slice (qR c) (qR_unit c)) shA (sq I c) ∗ (Wt c 12 ∗ Wt c 14) ∗ Ow c 0) -∗ Q ⟨(Scalar.addi 0#32 (Scalar.muli v2 4#32)), 2#32⟩)
        -∗ wp frame (wpE (defs₀ (F := F)) 𝒱₀ (c : Thread nD τ) none) Set.univ (k0_part11 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 c v2 v5 v8 v11 v12 v13) Q) := by
  rw [k0_part11_eq_skeleton]
  unfold k0_part11_skel
  simp only [semSignalWord, semWaitWord, Prog.lift, Prog.bind_op, Prog.bind_ret, Prog.pure_eq_ret, Prog.bind_assoc, wp_deviceId]
  iintro ⟨#He, ⟨Hb1, Hb2, Hb3⟩, Hs, ⟨HP1, HP2, HP3⟩, ⟨Ht1, Ht2, Ht3⟩, HO⟩ Hk
  ihave Hb1 := (barPay_1 c) $$ Hb1
  icases Hb1 with ⟨Hl1, #Hr1⟩
  ihave Hb2 := (barPay_2 c) $$ Hb2
  icases Hb2 with ⟨Hl2, #Hr2⟩
  ihave Hb3 := (barPay_3 c) $$ Hb3
  icases Hb3 with ⟨Hl3, #Hr3⟩
  ihave Hs := (own_share c _ fullShare _).1 $$ Hs
  icases Hs with ⟨HsA, Hs⟩
  ihave Hs := (own_share c _ fullShare.right _).1 $$ Hs
  icases Hs with ⟨HsB, HsC⟩
  iapply (sendD (dev10_eq c) 10 11 2 (x := sq I c) rfl rfl (amt_s11 c) .rfl (land_11 I c)) $$ [HsA Hl1 HP1 Ht1 HO]
  · isplitr; · iexact He
    isplitl [HsA]; · iexact HsA
    isplitl [Hl1]; · iexact Hl1
    isplitl [HP1]; · iexact HP1
    isplitl [Ht1]; · iexact Ht1
    isplitr; · iexact Hr1
    iexact HO
  iintro ⟨HW1, HO⟩
  iapply (sendD (dev11_eq c) 12 13 1 (x := sq I c) rfl rfl (amt_s13 c) .rfl (land_13 I c)) $$ [HsB Hl2 HP2 Ht2 HO]
  · isplitr; · iexact He
    isplitl [HsB]; · iexact HsB
    isplitl [Hl2]; · iexact Hl2
    isplitl [HP2]; · iexact HP2
    isplitl [Ht2]; · iexact Ht2
    isplitr; · iexact Hr2
    iexact HO
  iintro ⟨HW2, HO⟩
  iapply (sendD (dev12_eq c) 14 15 0 (x := sq I c) rfl rfl (amt_s15 c) .rfl (land_15 I c)) $$ [HsC Hl3 HP3 Ht3 HO]
  · isplitr; · iexact He
    isplitl [HsC]; · iexact HsC
    isplitl [Hl3]; · iexact Hl3
    isplitl [HP3]; · iexact HP3
    isplitl [Ht3]; · iexact Ht3
    isplitr; · iexact Hr3
    iexact HO
  iintro ⟨HW3, HO⟩
  iapply (waitD 10 0 (fun j hj => (by decide : ∀ j < 0, dlev 10 < dueLev j) j hj) (amt_s10 c)) $$ [HW1 HO]
  · isplitr; · iexact He
    isplitl [HW1]; · iexact HW1
    iexact HO
  iintro ⟨HD, HP, HO⟩
  ihave HP := (pay_10 I c) $$ HP
  iapply (ret_as ⟨(Scalar.addi 0#32 (Scalar.muli v2 4#32)), 2#32⟩)
  isplitr; · ipureintro; rfl
  iapply Hk
  isplitl [HD]; · iexact HD
  isplitl [HP]; · iexact HP
  isplitl [HW2 HW3]
  · isplitl [HW2] <;> iassumption
  iexact HO

/-- The gathering copies but the last are done. -/
theorem part12_run {Q} (v5 v8 v10 v11 v12 v13 v350 w : BitVec 32) :
    iprop(env I K ∗ (Wt c 11 ∗ Wt c 12 ∗ Wt c 13 ∗ Wt c 14) ∗ Ow c 0)
      ⊢ iprop((((Dn c 11 ∗ Dn c 12 ∗ Dn c 13 ∗ Dn c 14) ∗ (own c (sB.slice (qR (nb 1 c)) (qR_unit _)) fullShare (sq I (nb 1 c)) ∗ own c (sB.slice (qR c) (qR_unit c)) shB (sq I c)
            ∗ own c (sB.slice (qR (nb 2 c)) (qR_unit _)) fullShare (sq I (nb 2 c)) ∗ own c (sB.slice (qR c) (qR_unit c)) shC (sq I c)) ∗ Ow c 0) -∗ Q (Scalar.addi (Scalar.addi 0#32 (Scalar.muli v12 4#32)) (Scalar.muli v13 2#32)))
        -∗ wp frame (wpE (defs₀ (F := F)) 𝒱₀ (c : Thread nD τ) none) Set.univ (k0_part12 (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6 c v5 v8 v10 v11 v12 v13 v350 w) Q) := by
  rw [k0_part12_eq_skeleton]
  unfold k0_part12_skel
  simp only [semSignalWord, semWaitWord, Prog.lift, Prog.bind_op, Prog.bind_ret, Prog.pure_eq_ret, Prog.bind_assoc, wp_deviceId]
  iintro ⟨#He, ⟨HW11, HW12, HW13, HW14⟩, HO⟩ Hk
  iapply (waitD 11 0 (fun j hj => (by decide : ∀ j < 0, dlev 11 < dueLev j) j hj) (amt_s11 c)) $$ [HW11 HO]
  · isplitr; · iexact He
    isplitl [HW11]; · iexact HW11
    iexact HO
  iintro ⟨HD11, HP11, HO⟩
  ihave HP11 := (pay_11 I c) $$ HP11
  iapply (waitD 12 0 (fun j hj => (by decide : ∀ j < 0, dlev 12 < dueLev j) j hj) (amt_s12 c)) $$ [HW12 HO]
  · isplitr; · iexact He
    isplitl [HW12]; · iexact HW12
    iexact HO
  iintro ⟨HD12, HP12, HO⟩
  ihave HP12 := (pay_12 I c) $$ HP12
  iapply (waitD 13 0 (fun j hj => (by decide : ∀ j < 0, dlev 13 < dueLev j) j hj) (amt_s13 c)) $$ [HW13 HO]
  · isplitr; · iexact He
    isplitl [HW13]; · iexact HW13
    iexact HO
  iintro ⟨HD13, HP13, HO⟩
  ihave HP13 := (pay_13 I c) $$ HP13
  iapply (waitD 14 0 (fun j hj => (by decide : ∀ j < 0, dlev 14 < dueLev j) j hj) (amt_s14 c)) $$ [HW14 HO]
  · isplitr; · iexact He
    isplitl [HW14]; · iexact HW14
    iexact HO
  iintro ⟨HD14, HP14, HO⟩
  ihave HP14 := (pay_14 I c) $$ HP14
  iapply (ret_as (Scalar.addi (Scalar.addi 0#32 (Scalar.muli v12 4#32)) (Scalar.muli v13 2#32)))
  isplitr; · ipureintro; rfl
  iapply Hk
  isplitl [HD11 HD12 HD13 HD14]
  · isplitl [HD11]; · iexact HD11
    isplitl [HD12]; · iexact HD12
    isplitl [HD13] <;> iassumption
  isplitl [HP11 HP12 HP13 HP14]
  · isplitl [HP11]; · iexact HP11
    isplitl [HP12]; · iexact HP12
    isplitl [HP13] <;> iassumption
  iexact HO

/-! ## The end of the body -/

/-- The box of the whole result. -/
abbrev oR : Rect S512x512 := Rect.unit (s := S512x512) ![0, 0] S512x512.size inb_S512x512_S512x512_0_0

theorem oR_emb (y : S512x512.Idx) : oR.emb y = y := by
  funext a
  apply Fin.ext
  fin_cases a <;> simp [Rect.emb, Rect.unit]

theorem oR_dis : ∀ i j : Fin 1, i ≠ j → Disjoint oR.set oR.set := fun i j h => absurd (Subsingleton.elim i j) h
theorem oR_cov (y : S512x512.Idx) : ∃ _ : Fin 1, y ∈ oR.set := by
  refine ⟨0, Rect.mem_set_unit.mpr fun a => ?_⟩
  have h0 := (y 0).isLt
  have h1 := (y 1).isLt
  simp only [S512x512, Matrix.cons_val_zero, Matrix.cons_val_one] at h0 h1
  fin_cases a <;> simp <;> omega

/-- The whole box of a buffer is the buffer. -/
theorem whole_any (c : Dev nD) : any (F := F) c oB ⊢ any (F := F) c (oB.slice oR fun _ => rfl) := by
  have h := any_pieces (F := F) c oB (fun _ : Fin 1 => oR) (fun _ _ => rfl) oR_dis oR_cov
  rw [show (Finset.univ : Finset (Fin 1)) = {0} from rfl, bigSep_singleton] at h
  exact h

theorem whole_own (c : Dev nD) (x : S512x512.Idx → Elt F .f32) :
    (own c (oB.slice oR fun _ => rfl) fullShare x : sProp 𝕄) ⊢ own c oB fullShare x := by
  have h := own_join c oB fullShare (fun _ : Fin 1 => oR) (fun _ _ => rfl) oR_dis oR_cov (fun _ => x)
  rw [show (Finset.univ : Finset (Fin 1)) = {0} from rfl, bigSep_singleton] at h
  have e : glue (F := F) (fun _ : Fin 1 => oR) (fun _ => x) = x := by
    funext y
    have := glue_emb (F := F) (fun _ : Fin 1 => oR) oR_dis (fun _ => x) 0 y
    rwa [oR_emb] at this
  rw [e] at h
  exact h

/-- The three shares of the own quarter are the quarter. -/
theorem shares_join : iprop(own c (sB.slice (qR c) (qR_unit c)) shA (sq I c) ∗ own c (sB.slice (qR c) (qR_unit c)) shB (sq I c) ∗ own c (sB.slice (qR c) (qR_unit c)) shC (sq I c))
    ⊢ (own c (sB.slice (qR c) (qR_unit c)) fullShare (sq I c) : sProp 𝕄) := by
  iintro ⟨HA, HB, HC⟩
  iapply (own_share c _ fullShare _).2
  isplitl [HA]; · iexact HA
  iapply (own_share c _ fullShare.right _).2
  isplitl [HB] <;> iassumption

end Cert.Moe
-- ==== Proof.Body.lean ====
/-
# The body

The parts one after the other: what the body takes and what it leaves.
-/
module

public import proofs.«01_k».proof.Proof.BodyC

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F) (K : GSem nD τ sig → ℕ) (c : Dev nD)

/-- The tokens and counters of device `c`'s protocol at the start. -/
def protoPre : sProp 𝕄 :=
  iprop((dutyTok ER (barCell (nb 0 c)) 0 0 ∗ dutyTok ER (barCell (nb 1 c)) 0 1 ∗ dutyTok ER (barCell (nb 2 c)) 0 2 ∗ dutyTok ER (barCell (nb 3 c)) 0 3)
    ∗ (atPos ER (barCell c) 0 ∅ 0 ∗ cred (tallyAt (barCell c) () 4))
    ∗ (Pr c 0 ∗ Pr c 1 ∗ Pr c 4 ∗ Pr c 6 ∗ Pr c 7 ∗ Pr c 10 ∗ Pr c 12 ∗ Pr c 14 ∗ Pr c 16)
    ∗ (Wt c 2 ∗ Wt c 3 ∗ Wt c 5 ∗ Wt c 8 ∗ Wt c 9 ∗ Wt c 11 ∗ Wt c 13 ∗ Wt c 15)
    ∗ (reached ER (dcell c 2) 0 ∗ reached ER (dcell c 3) 0 ∗ reached ER (dcell c 5) 0 ∗ reached ER (dcell c 8) 0 ∗ reached ER (dcell c 9) 0 ∗ reached ER (dcell c 11) 0 ∗ reached ER (dcell c 13) 0 ∗ reached ER (dcell c 15) 0)
    ∗ (dutyTok ER (dcell (nb 0 c) 2) 0 0 ∗ dutyTok ER (dcell (nb 0 c) 3) 0 0 ∗ dutyTok ER (dcell (nb 0 c) 5) 0 0 ∗ dutyTok ER (dcell (nb 0 c) 8) 0 0 ∗ dutyTok ER (dcell (nb 0 c) 9) 0 0 ∗ dutyTok ER (dcell (nb 1 c) 11) 0 0 ∗ dutyTok ER (dcell (nb 2 c) 13) 0 0 ∗ dutyTok ER (dcell (nb 3 c) 15) 0 0))

/-- The counters of device `c`'s protocol at the end: every round taken. -/
def protoPost : sProp 𝕄 :=
  iprop(atPos ER (barCell c) (0 + 1) ∅ 0 ∗ (Dn c 0 ∗ Dn c 1 ∗ Dn c 2 ∗ Dn c 3 ∗ Dn c 4 ∗ Dn c 5 ∗ Dn c 6 ∗ Dn c 7 ∗ Dn c 8 ∗ Dn c 9 ∗ Dn c 10 ∗ Dn c 11 ∗ Dn c 12 ∗ Dn c 13 ∗ Dn c 14 ∗ Dn c 15 ∗ Dn c 16))

/-- The inputs of device `c`. -/
def inputs : sProp 𝕄 :=
  iprop(own c xB fullShare (I c).x ∗ own c aB fullShare (I c).a ∗ own c uB fullShare (I c).u ∗ own c wB fullShare (I c).w)

/-- The scratch buffers of device `c`, at whatever they hold. -/
def scratch : sProp 𝕄 :=
  iprop(any (F := F) c xrB ∗ any (F := F) c arB ∗ any (F := F) c ysB ∗ any (F := F) c yrB ∗ any (F := F) c sB ∗ any (F := F) c oB)

/-- The body on device `c`: from the inputs, the scratch buffers and the protocol's start, the result in place, the
    inputs unchanged and every round of the protocol taken. -/
theorem body_run {Q} :
    iprop(env I K ∗ protoPre c ∗ inputs I c ∗ any (F := F) c outB ∗ scratch c ∗ Ow c 12)
      ⊢ iprop(((protoPost c ∗ inputs I c ∗ own c outB fullShare (outV I c) ∗ scratch c ∗ Ow c 0) -∗ Q ⟨⟩)
        -∗ wp frame (wpE (defs₀ (F := F)) 𝒱₀ (c : Thread nD τ) none) Set.univ (cc0_body (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6) Q) := by
  rw [cc0_body_eq_skeleton]
  unfold cc0_body_skel protoPre inputs scratch
  simp only [Prog.lift, Prog.bind_op, Prog.bind_ret, Prog.pure_eq_ret, Prog.bind_assoc, wp_bind]
  iintro ⟨#He, ⟨⟨Hb0, Hb1, Hb2, Hb3⟩, Hbar, ⟨Hp0, Hp1, Hp4, Hp6, Hp7, Hp10, Hp12, Hp14, Hp16⟩, ⟨Hw2, Hw3, Hw5, Hw8, Hw9, Hw11, Hw13, Hw15⟩, ⟨#Hr2, #Hr3, #Hr5, #Hr8, #Hr9, #Hr11, #Hr13, #Hr15⟩, ⟨Ht2, Ht3, Ht5, Ht8, Ht9, Ht11, Ht13, Ht15⟩⟩, ⟨Hx, Ha, Hu, Hw⟩, Hout, ⟨Hxr, Har, Hys, Hyr, Hs, Ho⟩, HO⟩ Hk
  ihave Hx := (own_share c xB fullShare _).1 $$ Hx
  icases Hx with ⟨HxL, HxR⟩
  ihave HxL := (own_halves c xB fullShare.left _).1 $$ HxL
  icases HxL with ⟨Hx0, Hx1⟩
  ihave Ha := (own_share c aB fullShare _).1 $$ Ha
  icases Ha with ⟨HaL, HaR⟩
  ihave HaL := (own_borrow c aB (aR c) (fun _ => rfl) fullShare.left _) $$ HaL
  icases HaL with ⟨Haq, Harest⟩
  ihave Hxr := (any_halves c xrB) $$ Hxr
  icases Hxr with ⟨Hxr0, Hxr1⟩
  ihave Hys := (any_halves c ysB) $$ Hys
  icases Hys with ⟨Hys0, Hys1⟩
  ihave Hyr := (any_halves c yrB) $$ Hyr
  icases Hyr with ⟨Hyr0, Hyr1⟩
  ihave Hs := (any_quarters c) $$ Hs
  icases Hs with ⟨Hs, Hs1, Hs2, Hs3⟩
  ihave HB0 := (barPay0_intro c) $$ [Hxr0 Hxr1 Har Hyr0 Hyr1]
  · isplitl
    · isplitl [Hxr0]
      · iexact Hxr0
      isplitl [Hxr1]
      · iexact Hxr1
      isplitl [Har]
      · iexact Har
      isplitl [Hyr0]
      · iexact Hyr0
      iexact Hyr1
    isplitr; · iexact Hr2
    isplitr; · iexact Hr3
    isplitr; · iexact Hr5
    isplitr; · iexact Hr8
    iexact Hr9
  ihave HB1 := (barPay1_intro c) $$ [Hs1]
  · isplitl <;> iassumption
  ihave HB2 := (barPay2_intro c) $$ [Hs2]
  · isplitl <;> iassumption
  ihave HB3 := (barPay3_intro c) $$ [Hs3]
  · isplitl <;> iassumption
  iapply (part1_run) $$ [Hb0 HB0 Hb1 HB1 HO]
  · isplitr
    · iexact He
    isplitl [Hb0 HB0]
    · isplitl [Hb0]
      · iexact Hb0
      iexact HB0
    isplitl [Hb1 HB1]
    · isplitl [Hb1]
      · iexact Hb1
      iexact HB1
    iexact HO
  iintro HO
  simp only [wp_bind]
  iapply (part2_run _ _ _ _ _ _ _) $$ [Hb2 HB2 Hb3 HB3 Hbar Hx0 Hp0 Ht2 HO]
  · isplitr
    · iexact He
    isplitl [Hb2 HB2]
    · isplitl [Hb2]
      · iexact Hb2
      iexact HB2
    isplitl [Hb3 HB3]
    · isplitl [Hb3]
      · iexact Hb3
      iexact HB3
    isplitl [Hbar]
    · iexact Hbar
    isplitl [Hx0 Hp0 Ht2]
    · isplitl [Hx0]
      · iexact Hx0
      isplitl [Hp0]
      · iexact Hp0
      iexact Ht2
    iexact HO
  iintro ⟨Hbar, HW0, Hland, HB, HO⟩
  iapply (part3_run _ _ _ _) $$ [Hland Hx1 Hp1 Ht3 Haq Hp4 Ht5 HxR HaR Hu HO]
  · isplitr
    · iexact He
    isplitl [Hland]
    · iexact Hland
    isplitl [Hx1 Hp1 Ht3]
    · isplitl [Hx1]
      · iexact Hx1
      isplitl [Hp1]
      · iexact Hp1
      iexact Ht3
    isplitl [Haq Hp4 Ht5]
    · isplitl [Haq]
      · iexact Haq
      isplitl [Hp4]
      · iexact Hp4
      iexact Ht5
    isplitl [HxR HaR Hu]
    · isplitl [HxR]
      · iexact HxR
      isplitl [HaR]
      · iexact HaR
      iexact Hu
    iexact HO
  iintro ⟨Hland, ⟨HW1, HW4⟩, ⟨HxR, HaR, Hu⟩, HO⟩
  iapply (part4_run _ _ _) $$ [Hu Hw Hs HW4 HO]
  · isplitr
    · iexact He
    isplitl [Hu Hw]
    · isplitl [Hu]
      · iexact Hu
      iexact Hw
    isplitl [Hs]
    · iexact Hs
    isplitl [HW4]
    · iexact HW4
    iexact HO
  iintro ⟨⟨Hu, Hw⟩, Hs, HD4, Haq, HO⟩
  ihave HaL := Harest $$ [Haq]
  · iexact Haq
  iapply (part5_run _ _ _ _) $$ [Hw5 HW0 Hw2 HO]
  · isplitr
    · iexact He
    isplitl [Hw5 HW0 Hw2]
    · isplitl [Hw5]
      · iexact Hw5
      isplitl [HW0]
      · iexact HW0
      iexact Hw2
    iexact HO
  iintro ⟨⟨HD5, HD0, HD2⟩, Har, Hx0, Hxr0, HO⟩
  iapply (part6_run _ _) $$ [Hu Hw Hys0]
  · isplitl [Hu Hw]
    · isplitl [Hu]
      · iexact Hu
      iexact Hw
    iexact Hys0
  iintro ⟨⟨Hu, Hw⟩, Hys0⟩
  iapply (part7_run _ _ _ _) $$ [Hland Hys0 Hp6 Ht8 HW1 Hw3 Har HO]
  · isplitr
    · iexact He
    isplitl [Hland]
    · iexact Hland
    isplitl [Hys0 Hp6 Ht8]
    · isplitl [Hys0]
      · iexact Hys0
      isplitl [Hp6]
      · iexact Hp6
      iexact Ht8
    isplitl [HW1 Hw3]
    · isplitl [HW1]
      · iexact HW1
      iexact Hw3
    isplitl [Har]
    · iexact Har
    iexact HO
  iintro ⟨HW6, Hland, ⟨HD1, HD3⟩, Har, Hx1, Hxr1, HO⟩
  iapply (part8_run) $$ [Hu Hw Hys1]
  · isplitl [Hu Hw]
    · isplitl [Hu]
      · iexact Hu
      iexact Hw
    iexact Hys1
  iintro ⟨⟨Hu, Hw⟩, Hys1⟩
  iapply (part9_run _ _ _) $$ [Hland Hys1 Hp7 Ht9 HW6 Hw8 HO]
  · isplitr
    · iexact He
    isplitl [Hland]
    · iexact Hland
    isplitl [Hys1 Hp7 Ht9]
    · isplitl [Hys1]
      · iexact Hys1
      isplitl [Hp7]
      · iexact Hp7
      iexact Ht9
    isplitl [HW6 Hw8]
    · isplitl [HW6]
      · iexact HW6
      iexact Hw8
    iexact HO
  iintro ⟨HW7, ⟨HD6, HD8⟩, Hys0, Hyr0, HO⟩
  iapply (part10_run _ _ _ _ _ _) $$ [HW7 Hw9 Hyr0 Hs HO]
  · isplitr
    · iexact He
    isplitl [HW7 Hw9]
    · isplitl [HW7]
      · iexact HW7
      iexact Hw9
    isplitl [Hyr0]
    · iexact Hyr0
    isplitl [Hs]
    · iexact Hs
    iexact HO
  iintro ⟨⟨HD7, HD9⟩, Hys1, Hyr, Hs, HO⟩
  iapply (part11_run _ _ _ _ _ _) $$ [HB Hs Hp10 Hp12 Hp14 Ht11 Ht13 Ht15 HO]
  · isplitr
    · iexact He
    isplitl [HB]
    · iexact HB
    isplitl [Hs]
    · iexact Hs
    isplitl [Hp10 Hp12 Hp14]
    · isplitl [Hp10]
      · iexact Hp10
      isplitl [Hp12]
      · iexact Hp12
      iexact Hp14
    isplitl [Ht11 Ht13 Ht15]
    · isplitl [Ht11]
      · iexact Ht11
      isplitl [Ht13]
      · iexact Ht13
      iexact Ht15
    iexact HO
  iintro ⟨HD10, HsA, ⟨HW12, HW14⟩, HO⟩
  iapply (part12_run _ _ _ _ _ _ _ _) $$ [Hw11 HW12 Hw13 HW14 HO]
  · isplitr
    · iexact He
    isplitl [Hw11 HW12 Hw13 HW14]
    · isplitl [Hw11]
      · iexact Hw11
      isplitl [HW12]
      · iexact HW12
      isplitl [Hw13]
      · iexact Hw13
      iexact HW14
    iexact HO
  iintro ⟨⟨HD11, HD12, HD13, HD14⟩, ⟨Hs1, HsB, Hs2, HsC⟩, HO⟩
  iapply (waitD 15 0 (fun j hj => (by decide : ∀ j < 0, dlev 15 < dueLev j) j hj) (amt_s15 c)) $$ [Hw15 HO]
  · isplitr; · iexact He
    isplitl [Hw15]; · iexact Hw15
    iexact HO
  iintro ⟨HD15, Hs3, HO⟩
  ihave Hs3 := (pay_15 I c) $$ Hs3
  ihave Hs := (shares_join (I := I) (c := c)) $$ [HsA HsB HsC]
  · isplitl [HsA]; · iexact HsA
    isplitl [HsB] <;> iassumption
  ihave Hs := (quarters_join I c) $$ [Hs Hs1 Hs2 Hs3]
  · isplitl [Hs]; · iexact Hs
    isplitl [Hs1]; · iexact Hs1
    isplitl [Hs2] <;> iassumption
  iapply (load_own (_) (sAll I c)) $$ Hs
  iintro Hs
  ihave Ho := (any_own c _) $$ Ho
  icases Ho with ⟨%x, Ho⟩
  iapply (load_own (_) (x)) $$ Ho
  iintro Ho
  ihave Ho := (own_any c _ _) $$ Ho
  ihave Ho := (whole_any c) $$ Ho
  iapply (store_slice (fun _ => rfl)) $$ Ho
  iintro Ho
  ihave Ho := (whole_own c (outV I c)) $$ [Ho]
  · iexact Ho
  iapply (copyOut) $$ [Ho Hout Hp16]
  · isplitr
    · iexact He
    isplitl [Ho]
    · iexact Ho
    isplitl [Hout]
    · iexact Hout
    iexact Hp16
  iintro HW16
  iapply (waitD 16 0 (fun j hj => (by decide : ∀ j < 0, dlev 16 < dueLev j) j hj) amt_out) $$ [HW16 HO]
  · isplitr; · iexact He
    isplitl [HW16]; · iexact HW16
    iexact HO
  iintro ⟨HD16, HP, HO⟩
  ihave HP := (pay_16 I c) $$ HP
  icases HP with ⟨Hout, Ho⟩
  iapply (ret_as ⟨⟩)
  isplitr; · ipureintro; rfl
  iapply Hk
  isplitl [Hbar HD0 HD1 HD2 HD3 HD4 HD5 HD6 HD7 HD8 HD9 HD10 HD11 HD12 HD13 HD14 HD15 HD16]
  · unfold protoPost
    isplitl [Hbar]; · iexact Hbar
    isplitl [HD0]
    · iexact HD0
    isplitl [HD1]
    · iexact HD1
    isplitl [HD2]
    · iexact HD2
    isplitl [HD3]
    · iexact HD3
    isplitl [HD4]
    · iexact HD4
    isplitl [HD5]
    · iexact HD5
    isplitl [HD6]
    · iexact HD6
    isplitl [HD7]
    · iexact HD7
    isplitl [HD8]
    · iexact HD8
    isplitl [HD9]
    · iexact HD9
    isplitl [HD10]
    · iexact HD10
    isplitl [HD11]
    · iexact HD11
    isplitl [HD12]
    · iexact HD12
    isplitl [HD13]
    · iexact HD13
    isplitl [HD14]
    · iexact HD14
    isplitl [HD15]
    · iexact HD15
    iexact HD16
  isplitl [Hx0 Hx1 HxR HaL HaR Hu Hw]
  · isplitl [Hx0 Hx1 HxR]
    · iapply (own_share c xB fullShare _).2
      isplitl [Hx0 Hx1]
      · iapply (own_halves c xB fullShare.left _).2
        isplitl [Hx0]; · iexact Hx0
        iexact Hx1
      iexact HxR
    isplitl [HaL HaR]
    · iapply (own_share c aB fullShare _).2
      isplitl [HaL]; · iexact HaL
      iexact HaR
    isplitl [Hu] <;> iassumption
  isplitl [Hout]; · iexact Hout
  isplitr [HO]
  · isplitl [Hxr0 Hxr1]
    · iapply (any_halves_join c xrB)
      isplitl [Hxr0]
      · iapply (own_any c _ _) $$ Hxr0
      iapply (own_any c _ _) $$ Hxr1
    isplitl [Har]; · iapply (own_any c _ _) $$ Har
    isplitl [Hys0 Hys1]
    · iapply (any_halves_join c ysB)
      isplitl [Hys0]
      · iapply (own_any c _ _) $$ Hys0
      iapply (own_any c _ _) $$ Hys1
    isplitl [Hyr]; · iapply (own_any c _ _) $$ Hyr
    isplitl [Hs]; · iapply (own_any c _ _) $$ Hs
    iapply (own_any c _ _) $$ Ho
  iexact HO

end Cert.Moe
-- ==== Proof.Deal.lean ====
/-
# Dealing the protocol's pieces

At the launch each device gets the right to make its own payments; when the region is entered the copy semaphores'
counters come, and when it is left all counters go back at zero.
-/
module

public import proofs.«01_k».proof.Proof.Body

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Who pays copy semaphore `i` of device `c`, and whose semaphore `i` device `c` pays. -/
def payer (i : Fin 17) (c : Dev nD) : Dev nD :=
  if i.val = 2 ∨ i.val = 3 ∨ i.val = 5 ∨ i.val = 8 ∨ i.val = 9 then nb 0 c
    else if i.val = 11 then nb 1 c else if i.val = 13 then nb 2 c else if i.val = 15 then nb 3 c else c

theorem payer_payer (i : Fin 17) (c : Dev nD) : payer i (payer i c) = c := by
  unfold payer; split
  · exact nb_nb 0 c
  split
  · exact nb_nb 1 c
  split
  · exact nb_nb 2 c
  split
  · exact nb_nb 3 c
  rfl

def payerE (i : Fin 17) : Dev nD ≃ Dev nD := ⟨payer i, payer i, payer_payer i, payer_payer i⟩

theorem bigSep_fin17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [(0 : Fin 17), 1, 2, 3, 4, 5, 6, 7, 8, 9, 10, 11, 12, 13, 14, 15, 16] (by decide) (by decide) Φ

/-- The units device `c` will be paid by others. -/
def crd (c : Dev nD) : sProp 𝕄 :=
  iprop(cred (tallyAt (barCell c) () 4) ∗ cred (tallyAt (dcell c 2) () (amt 2)) ∗ cred (tallyAt (dcell c 3) () (amt 3))
    ∗ cred (tallyAt (dcell c 5) () (amt 5)) ∗ cred (tallyAt (dcell c 8) () (amt 8)) ∗ cred (tallyAt (dcell c 9) () (amt 9))
    ∗ cred (tallyAt (dcell c 11) () (amt 11)) ∗ cred (tallyAt (dcell c 13) () (amt 13)) ∗ cred (tallyAt (dcell c 15) () (amt 15)))

/-- The rights to pay that device `c` has. -/
def toks (c : Dev nD) : sProp 𝕄 :=
  iprop((bigSep Finset.univ fun k : Fin 4 => dutyTok ER (barCell (nb k c)) 0 k)
    ∗ bigSep Finset.univ fun i : Fin 17 => dutyTok ER (dcell (payer i c) i) 0 0)

/-- What device `c` has from the launch on. -/
def dealt (c : Dev nD) : sProp 𝕄 :=
  iprop(toks (F := F) c ∗ atPos ER (barCell c) 0 ∅ 0 ∗ crd c)

/-- The copy semaphores at their start. -/
def begun (c : Dev nD) : sProp 𝕄 :=
  bigSep Finset.univ fun i : Fin 17 => iprop(atPos ER (dcell c i) 0 ∅ 0 ∗ reached ER (dcell c i) 0)

theorem protoPre_intro (c : Dev nD) : iprop(dealt (F := F) c ∗ begun c) ⊢ protoPre (F := F) c := by
  unfold dealt begun toks crd protoPre Pr Wt
  rw [bigSep_fin4, bigSep_fin17, bigSep_fin17]
  iintro ⟨⟨⟨⟨Hb0, Hb1, Hb2, Hb3⟩, T0, T1, T2, T3, T4, T5, T6, T7, T8, T9, T10, T11, T12, T13, T14, T15, T16⟩, Hat,
      Hcb, C2, C3, C5, C8, C9, C11, C13, C15⟩,
    ⟨A0, R0⟩, ⟨A1, R1⟩, ⟨A2, R2⟩, ⟨A3, R3⟩, ⟨A4, R4⟩, ⟨A5, R5⟩, ⟨A6, R6⟩, ⟨A7, R7⟩, ⟨A8, R8⟩, ⟨A9, R9⟩, ⟨A10, R10⟩, ⟨A11, R11⟩,
    ⟨A12, R12⟩, ⟨A13, R13⟩, ⟨A14, R14⟩, ⟨A15, R15⟩, A16, R16⟩
  isplitl [Hb0 Hb1 Hb2 Hb3]
  · isplitl [Hb0]; · iexact Hb0
    isplitl [Hb1]; · iexact Hb1
    isplitl [Hb2]; · iexact Hb2
    iexact Hb3
  isplitl [Hat Hcb]
  · isplitl [Hat]; · iexact Hat
    iexact Hcb
  isplitl [A0 T0 R0 A1 T1 R1 A4 T4 R4 A6 T6 R6 A7 T7 R7 A10 T10 R10 A12 T12 R12 A14 T14 R14 A16 T16 R16]
  · isplitl [A0 T0 R0]
    · isplitl [A0]; · iexact A0
      isplitl [T0]; · iexact T0
      iexact R0
    isplitl [A1 T1 R1]
    · isplitl [A1]; · iexact A1
      isplitl [T1]; · iexact T1
      iexact R1
    isplitl [A4 T4 R4]
    · isplitl [A4]; · iexact A4
      isplitl [T4]; · iexact T4
      iexact R4
    isplitl [A6 T6 R6]
    · isplitl [A6]; · iexact A6
      isplitl [T6]; · iexact T6
      iexact R6
    isplitl [A7 T7 R7]
    · isplitl [A7]; · iexact A7
      isplitl [T7]; · iexact T7
      iexact R7
    isplitl [A10 T10 R10]
    · isplitl [A10]; · iexact A10
      isplitl [T10]; · iexact T10
      iexact R10
    isplitl [A12 T12 R12]
    · isplitl [A12]; · iexact A12
      isplitl [T12]; · iexact T12
      iexact R12
    isplitl [A14 T14 R14]
    · isplitl [A14]; · iexact A14
      isplitl [T14]; · iexact T14
      iexact R14
    isplitl [A16]; · iexact A16
    isplitl [T16]; · iexact T16
    iexact R16
  isplitl [A2 C2 A3 C3 A5 C5 A8 C8 A9 C9 A11 C11 A13 C13 A15 C15]
  · isplitl [A2 C2]
    · isplitl [A2]; · iexact A2
      iexact C2
    isplitl [A3 C3]
    · isplitl [A3]; · iexact A3
      iexact C3
    isplitl [A5 C5]
    · isplitl [A5]; · iexact A5
      iexact C5
    isplitl [A8 C8]
    · isplitl [A8]; · iexact A8
      iexact C8
    isplitl [A9 C9]
    · isplitl [A9]; · iexact A9
      iexact C9
    isplitl [A11 C11]
    · isplitl [A11]; · iexact A11
      iexact C11
    isplitl [A13 C13]
    · isplitl [A13]; · iexact A13
      iexact C13
    isplitl [A15]; · iexact A15
    iexact C15
  isplitl [R2 R3 R5 R8 R9 R11 R13 R15]
  · isplitl [R2]; · iexact R2
    isplitl [R3]; · iexact R3
    isplitl [R5]; · iexact R5
    isplitl [R8]; · iexact R8
    isplitl [R9]; · iexact R9
    isplitl [R11]; · iexact R11
    isplitl [R13]; · iexact R13
    iexact R15
  isplitl [T2]; · iexact T2
  isplitl [T3]; · iexact T3
  isplitl [T5]; · iexact T5
  isplitl [T8]; · iexact T8
  isplitl [T9]; · iexact T9
  isplitl [T11]; · iexact T11
  isplitl [T13]; · iexact T13
  iexact T15

variable (I : Dev nD → In F)

theorem begin_run (K : GSem nD τ sig → ℕ) (c : Dev nD) :
    iprop(records I K ∗ (bigSep Finset.univ fun i : Fin 17 => openTok ER (dcell c i)) ∗ Pipeline.ownSems0 osem c)
      ⊢ (|={Set.univ}=> begun (F := F) c : sProp 𝕄) := by
  have h1 (i : Fin 17) : iprop(records I K ∗ (openTok ER (dcell c i) ∗ semVal (dcell c i) 0))
      ⊢ (|={Set.univ}=> iprop(atPos ER (dcell c i) 0 ∅ 0 ∗ reached ER (dcell c i) 0) : sProp 𝕄) := by
    iintro ⟨#HR, Ho, Hv⟩
    ihave #HI := (records_d I K c i) $$ HR
    iapply (Rounds.cell_open ER (Rd I) (g := dcell c i) (Set.mem_univ (K (dcell c i))))
    isplitr; · iexact HI
    isplitl [Ho]; · iexact Ho
    iexact Hv
  unfold begun Pipeline.ownSems0
  iintro ⟨#HR, Ho, Hv⟩
  iapply (bigSep_fupd Finset.univ _)
  iapply (bigSep_with_persistent (S := Finset.univ) (R := records I K)
    (Φ := fun i : Fin 17 => iprop(openTok ER (dcell c i) ∗ semVal (dcell c i) 0)) fun i _ => h1 i)
  isplitr; · iexact HR
  rw [bigSep_sep']
  isplitl [Ho]; · iexact Ho
  iexact Hv

theorem end_run (K : GSem nD τ sig → ℕ) (c : Dev nD) :
    iprop(records I K ∗ protoPost (F := F) c)
      ⊢ (|={Set.univ}=> iprop(semVal (barCell c) 0 ∗ Pipeline.ownSems0 osem c) : sProp 𝕄) := by
  have h : protoPost (F := F) c = iprop(atPos ER (barCell c) (0 + 1) ∅ 0 ∗ bigSep Finset.univ fun i : Fin 17 => Dn (F := F) c i) := by
    rw [bigSep_fin17]; rfl
  rw [h]
  unfold Pipeline.ownSems0
  iintro ⟨#HR, Hb, Hd⟩
  imod (closeBar (I := I) (K := K) (c := c)) $$ [Hb] with Hb
  · isplitr; · iexact HR
    iexact Hb
  imod ((bigSep_with_persistent (S := Finset.univ) (R := records I K) (Φ := fun i : Fin 17 => Dn (F := F) c i)
    fun i _ => closeD (I := I) (K := K) (c := c) i).trans (bigSep_fupd Finset.univ _)) $$ [Hd] with Hd
  · isplitr; · iexact HR
    iexact Hd
  imodintro
  isplitl [Hb]; · iexact Hb
  iexact Hd

end Cert.Moe
-- ==== Proof.Region.lean ====
/-
# The region of the call

What the call's region holds before and after its one point, the obligation of its body, and the region as one segment
of the program.
-/
module

public import proofs.«01_k».proof.Proof.Deal
public import proofs.«01_k».proof.Proof.Gen.KernelIdeal.Regions
public import proofs.«01_k».proof.Proof.Gen.KernelIdeal.Points
public import Idealize.ShloMosaic.Lib.Pipeline.RegionTalk

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What the call takes on device `c`: the blocks its windows fetch. -/
def inOf (c : Dev nD) : In F where
  x := (win0_0.blk t0_0).view.read (Elt F) (V1 m c main_v15)
  a := (win0_1.blk t0_0).view.read (Elt F) (V1 m c main_arg1)
  u := (win0_2.blk t0_0).view.read (Elt F) (V1 m c main_arg2)
  w := (win0_3.blk t0_0).view.read (Elt F) (V1 m c main_arg3)

/-- The buffers after the call. -/
abbrev V2' (c : Dev nD) : Valuation τ sig (Elt F) :=
  Function.update (V1 m c) main_v16 (outV (inOf m) c : Buf (Elt F) ((c : Thread nD τ).loc main_v16))

def X0 (c : Dev nD) : sProp 𝕄 :=
  iprop(∃ K, env (inOf m) K ∗ protoPre (F := F) c)

def dat0 (c : Dev nD) : Dat τ (Elt F) Unit ℕ UU ℕ cfg0 c where
  A w := V1 m c (Pipeline.arrRef spec0 w)
  after w _ := match w with
    | ⟨0, _⟩ => (inOf m c).x
    | ⟨1, _⟩ => (inOf m c).a
    | ⟨2, _⟩ => (inOf m c).u
    | ⟨3, _⟩ => (inOf m c).w
  Φ t := if t.val = 0 then iprop(X0 m c ∗ any (F := F) c outB ∗ scratch (F := F) c ∗ ∃ r, prngReg c r)
    else iprop((semVal (barCell c) 0 ∗ Pipeline.ownSems0 osem c) ∗ own c outB fullShare (outV (inOf m) c) ∗ scratch (F := F) c ∗ ∃ r, prngReg c r)
  q _ := fullShare
  owed t := if t.val = 0 then owed c 12 else 0

def pdats (p : Fin 1) (c : Dev nD) : Dat τ (Elt F) Unit ℕ UU ℕ (cfgs p) c := dat0 m c

theorem owed_first (c : Dev nD) : (dat0 m c).owed t0_0.castSucc = owed c 12 := rfl
theorem owed_zero (c : Dev nD) : (pdats m 0 c).owed 0 = owed c 12 := rfl
theorem owed_last (c : Dev nD) : (pdats m 0 c).owed (Fin.last _) = 0 := by
  show (if (Fin.last cfg0.N).val = 0 then owed c 12 else 0) = 0
  rw [Fin.val_last, if_neg (by rw [show cfg0.N = 1 from N_0]; decide)]

theorem owesAt_elim (c : Dev nD) : ((dat0 m c).owesAt () t0_0.castSucc : sProp 𝕄) ⊢ Ow (F := F) c 12 := by
  unfold Dat.owesAt Pipeline.owesWithin Ow; rw [owed_first]
  iintro ⟨%W, -, HO⟩; iexists W; iexact HO
theorem owesAt_intro (c : Dev nD) : Ow (F := F) c 0 ⊢ ((dat0 m c).owesAt () t0_0.succ : sProp 𝕄) := by
  unfold Dat.owesAt Pipeline.owesWithin Ow Dat.bound
  rw [show (dat0 m c).owed t0_0.succ = owed c 0 from owed_last m c, show (dat0 m c).recorded t0_0.succ = Set.univ from rfl]
  iintro ⟨%W, HO⟩; iexists W; isplitr; · ipureintro; exact fun _ _ => Or.inl trivial
  iexact HO

theorem bef0 (c : Dev nD) (d) : (dat0 m c).before (0 : Fin 4) t0_0 d = (inOf m c).x := by
  unfold Dat.before; rw [if_pos (fetch0_0 t0_0)]; rfl
theorem bef1 (c : Dev nD) (d) : (dat0 m c).before (1 : Fin 4) t0_0 d = (inOf m c).a := by
  unfold Dat.before; rw [if_pos (fetch0_1 t0_0)]; rfl
theorem bef2 (c : Dev nD) (d) : (dat0 m c).before (2 : Fin 4) t0_0 d = (inOf m c).u := by
  unfold Dat.before; rw [if_pos (fetch0_2 t0_0)]; rfl
theorem bef3 (c : Dev nD) (d) : (dat0 m c).before (3 : Fin 4) t0_0 d = (inOf m c).w := by
  unfold Dat.before; rw [if_pos (fetch0_3 t0_0)]; rfl

/-- A staging buffer held at a value, in the region's words and in the body's. -/
theorem owns_own (c : Dev nD) (b : Ref sig .tc) (x : b.ty.Contents (Elt F)) :
    (owns (c : Thread nD τ) (Memref.whole b) fullShare x : sProp 𝕄) = own c (Memref.whole b) fullShare x := by
  rw [owns_whole]
  exact own_whole (m := Memref.whole b) c (View.set_whole b) fullShare x

theorem body_obl (c : Dev nD) : BodyObligation (dat0 m c) defs₀ 𝒱₀ () Set.univ := fun t => by
  obtain rfl := fin_N0 t
  rw [bigSep_W0, bigSep_W0]
  rw [show (dat0 m c).Φ t0_0.castSucc = iprop(X0 m c ∗ any (F := F) c outB ∗ scratch (F := F) c ∗ ∃ r, prngReg c r) from rfl,
    show (dat0 m c).Φ t0_0.succ = iprop((semVal (barCell c) 0 ∗ Pipeline.ownSems0 osem c) ∗ own c outB fullShare (outV (inOf m) c) ∗ scratch (F := F) c ∗ ∃ r, prngReg c r) from rfl]
  show iprop(_ ∗ _ ∗ (∃ d, owns (c : Thread nD τ) (Memref.whole cc0_stg0_0) fullShare ((dat0 m c).before (0 : Fin 4) t0_0 d))
      ∗ (∃ d, owns (c : Thread nD τ) (Memref.whole cc0_stg1_0) fullShare ((dat0 m c).before (1 : Fin 4) t0_0 d))
      ∗ (∃ d, owns (c : Thread nD τ) (Memref.whole cc0_stg2_0) fullShare ((dat0 m c).before (2 : Fin 4) t0_0 d))
      ∗ (∃ d, owns (c : Thread nD τ) (Memref.whole cc0_stg3_0) fullShare ((dat0 m c).before (3 : Fin 4) t0_0 d)))
    ⊢ wp frame (wpE (defs₀ (F := F)) 𝒱₀ (c : Thread nD τ) none) Set.univ (cc0_body (F := F) xB (Memref.isWhole_whole _) aB (Memref.isWhole_whole _) uB (Memref.isWhole_whole _) wB (Memref.isWhole_whole _) outB (Memref.isWhole_whole _) xrB (Memref.isWhole_whole _) arB (Memref.isWhole_whole _) ysB (Memref.isWhole_whole _) yrB (Memref.isWhole_whole _) sB (Memref.isWhole_whole _) oB (Memref.isWhole_whole _) cc0_scratch6)
      fun _ => iprop(_ ∗ _ ∗ owns (c : Thread nD τ) (Memref.whole cc0_stg0_0) fullShare (inOf m c).x
        ∗ owns (c : Thread nD τ) (Memref.whole cc0_stg1_0) fullShare (inOf m c).a
        ∗ owns (c : Thread nD τ) (Memref.whole cc0_stg2_0) fullShare (inOf m c).u
        ∗ owns (c : Thread nD τ) (Memref.whole cc0_stg3_0) fullShare (inOf m c).w)
  simp only [bef0, bef1, bef2, bef3, owns_own]
  unfold X0
  iintro ⟨⟨⟨%K, #He, Hp⟩, Ho, Hs, Hreg⟩, HO, ⟨%_, H0⟩, ⟨%_, H1⟩, ⟨%_, H2⟩, %_, H3⟩
  iapply (wp_fupd _ _ _ _)
  ihave HO := (owesAt_elim m c) $$ HO
  iapply (body_run (inOf m) K c) $$ [Hp Ho Hs HO H0 H1 H2 H3]
  · unfold inputs
    isplitr; · iexact He
    isplitl [Hp]; · iexact Hp
    isplitl [H0 H1 H2 H3]
    · isplitl [H0]; · iexact H0
      isplitl [H1]; · iexact H1
      isplitl [H2]; · iexact H2
      iexact H3
    isplitl [Ho]; · iexact Ho
    isplitl [Hs]; · iexact Hs
    iexact HO
  unfold inputs
  iintro ⟨Hp, ⟨H0, H1, H2, H3⟩, Ho, Hs, HO⟩
  unfold env
  icases He with ⟨#HR, -⟩
  imod (end_run (inOf m) K c) $$ [Hp] with Hp
  · isplitr; · iexact HR
    iexact Hp
  imodintro
  isplitl [Hp Ho Hs Hreg]
  · isplitl [Hp]; · iexact Hp
    isplitl [Ho]; · iexact Ho
    isplitl [Hs]; · iexact Hs
    iexact Hreg
  isplitl [HO]; · iapply (owesAt_intro m c) $$ HO
  isplitl [H0]; · iexact H0
  isplitl [H1]; · iexact H1
  isplitl [H2]; · iexact H2
  iexact H3

/-! ## The region as a segment -/

abbrev Hs : Finset (DevRef τ sig) := {Proc.devRef .tc main_v16}
abbrev Sr : Finset (DevRef τ sig) := Pipeline.ucRefs τ sig \ Pipeline.arrRefs (τ := τ) spec0

theorem Hs_sub : Hs ⊆ Sr := by decide

/-- What device `c` has of the protocol when it comes to the call. -/
def Tk (c : Dev nD) : sProp 𝕄 :=
  iprop((∃ K, records (inOf m) K ∗ bigSep Finset.univ fun i : Fin 17 => openTok ER (dcell c i)) ∗ dealt (F := F) c)

theorem open_run (c : Dev nD) : iprop(Tk m c ∗ Pipeline.ownSems0 osem c ∗ levAts L lv) ⊢ (|={Set.univ}=> X0 m c : sProp 𝕄) := by
  unfold Tk X0
  iintro ⟨⟨⟨%K, #HR, Hop⟩, Hd⟩, Hv, #Hlev⟩
  imod (begin_run (inOf m) K c) $$ [Hop Hv] with Hb
  · isplitr; · iexact HR
    isplitl [Hop]; · iexact Hop
    iexact Hv
  imodintro
  iexists K
  isplitr
  · unfold env
    isplitr; · iexact HR
    iexact Hlev
  iapply (protoPre_intro c)
  isplitl [Hd]; · iexact Hd
  iexact Hb

theorem scratch_eq (c : Dev nD) : (Pipeline.scopedRest (Ix := Unit) (Name := ℕ) (U := UU) (Lvl := ℕ) (Val := Elt F) spec0 c : sProp 𝕄) = scratch (F := F) c := by
  rw [scopedRest0_eq]
  unfold scratch
  rw [any_whole (m := xrB) c (View.set_whole _), any_whole (m := arB) c (View.set_whole _), any_whole (m := ysB) c (View.set_whole _),
    any_whole (m := yrB) c (View.set_whole _), any_whole (m := sB) c (View.set_whole _), any_whole (m := oB) c (View.set_whole _)]

theorem held_Hs (c : Dev nD) (W : Valuation τ sig (Elt F)) :
    (StableHlo.held (c.tc : Thread nD τ) Hs W : sProp 𝕄) = own c outB fullShare (W main_v16) := by
  unfold StableHlo.held
  rw [bigSep_singleton]
  exact own_whole (m := outB) c (View.set_whole main_v16) fullShare (W main_v16)

theorem hin0 (c : Dev nD) : iprop(Pipeline.scopedRest spec0 c ∗ (∃ r, prngReg c r) ∗ StableHlo.held (c.tc : Thread nD τ) Hs (V1 m c) ∗ X0 m c)
    ⊢ (pdats m 0 c).Φ 0 := by
  rw [show (pdats m 0 c).Φ 0 = iprop(X0 m c ∗ any (F := F) c outB ∗ scratch (F := F) c ∗ ∃ r, prngReg c r) from rfl, scratch_eq, held_Hs]
  iintro ⟨Hs, Hp, Ho, HX⟩
  isplitl [HX]; · iexact HX
  isplitl [Ho]; · iapply (own_any c outB _) $$ Ho
  isplitl [Hs]; · iexact Hs
  iexact Hp

theorem hout0 (c : Dev nD) : (pdats m 0 c).Φ (Fin.last cfg0.N)
    ⊢ iprop(Pipeline.scopedRest spec0 c ∗ (∃ r, prngReg c r) ∗ StableHlo.held (c.tc : Thread nD τ) Hs (V2' m c) ∗ Pipeline.ownSems0 osem c ∗ semVal (barCell c) 0) := by
  have e : (Fin.last cfg0.N) = t0_0.succ := rfl
  rw [show (pdats m 0 c).Φ (Fin.last cfg0.N) = iprop((semVal (barCell c) 0 ∗ Pipeline.ownSems0 osem c) ∗ own c outB fullShare (outV (inOf m) c) ∗ scratch (F := F) c ∗ ∃ r, prngReg c r) from rfl,
    scratch_eq, held_Hs, show V2' m c main_v16 = outV (inOf m) c from Function.update_self _ _ _]
  iintro ⟨⟨Hb, Hv⟩, Ho, Hs, Hp⟩
  isplitl [Hs]; · iexact Hs
  isplitl [Hp]; · iexact Hp
  isplitl [Ho]; · iexact Ho
  isplitl [Hv]; · iexact Hv
  iexact Hb

theorem cut0 (c : Dev nD) (t : Fin (cfg0.N + 1)) (g : GSem nD τ sig) (i : Unit) (h : 0 < (dat0 m c).owed t g i) :
    i ∈ L g ∧ (0 : ℕ) < lv g i := by
  have e : (dat0 m c).owed t = if t.val = 0 then owed c 12 else 0 := rfl
  rw [e] at h
  split at h
  · obtain ⟨j, hj, rfl⟩ := owed_pos h
    refine ⟨by rw [L, if_pos (due_tc c j)]; exact Finset.mem_singleton_self _, ?_⟩
    rw [show lv (due c j).1 i = dueLev j from due_lev c j]
    unfold dueLev; split
    · decide
    split
    · decide
    split <;> decide
  · exact absurd h (Nat.lt_irrefl 0)

theorem arr_in : ∀ w : Fin 4, (cfg0.win w).isOut = false := by decide

theorem arr_same (c : Dev nD) (w : Fin 4) (n : ℕ) : (dat0 m c).arrAt w n = V1 m c (Proc.devRef .tc (Pipeline.arrRef spec0 w)) :=
  (dat0 m c).arrAt_in w (arr_in w) n

theorem V2'_of (c : Dev nD) (b : DevRef τ sig) (h : b ≠ Proc.devRef .tc main_v16) : V2' m c b = V1 m c b :=
  Function.update_of_ne h _ _

theorem arr_ne : ∀ w : Fin 4, (Proc.devRef .tc (Pipeline.arrRef spec0 w) : DevRef τ sig) ≠ Proc.devRef .tc main_v16 := by decide

theorem stage_lev (c : Dev nD) (w : Fin 4) (s : Fin ((cfg0.win w).nbuf)) : lv ((c : Thread nD τ), SemLoc.dma ((cfg0.win w).sem s)) () = 0 := by
  have h : ∀ (w : Fin 4) (s : Fin ((cfg0.win w).nbuf)), dix (.dma ((cfg0.win w).sem s)) = none := by decide
  unfold lv; dsimp only; rw [h w s]

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Sr Hs_sub launch0.toP rfl (fun c => (body_obl m c).loose)
    (fun _ => 0) (fun c => owed c 12) (fun c => (owed_zero m c).trans (zero_add _).symm) (owed_last m) (fun _ => rfl)
    (fun c w => by unfold Dat.share; split <;> rfl)
    (V1 m) (V2' m) (fun c b hb => V2'_of m c b fun h => (Finset.mem_sdiff.mp hb).2 (by rw [h]; exact Finset.mem_singleton_self _))
    (Tk m) (fun c => semVal (barCell c) 0) (X0 m) (fun c => semVal (barCell c) 0) (open_run m) (hin0 m) (hout0 m)
    (fun c => by iintro H; imodintro; iexact H)
    (fun _ => 0)
    ⟨fun c w s => by simp [L, Pipeline.cellOf], fun c w s => Nat.le_of_eq (stage_lev c w s), fun c t g i h => cut0 m c t g i h⟩
    (fun _ => iprop(emp))
    (fun c w => arr_same m c w 0) (fun c w => (arr_same m c w _).trans (V2'_of m c _ (arr_ne w)).symm)

end Cert.Moe
-- ==== Proof.Launch.lean ====
/-
# The launch and the run

The launch deals the tokens, units and counters to the devices; from there the program runs: its host stretch, then
the call. At the end the output holds its value, the arguments are as they were, and every counter is zero.
-/
module

public import proofs.«01_k».proof.Proof.Region

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ

/-! ## The units owed to a cell -/

theorem owed_at (d : Dev nD) (n : ℕ) (g : GSem nD τ sig) :
    owed d n g () = ∑ j ∈ Finset.range n, if g = (due d j).1 then (due d j).2 else 0 := by
  induction n with
  | zero => rfl
  | succ n ih =>
    rw [Finset.sum_range_succ, ← ih]
    show (owed d n + tallyAt (due d n).1 () (due d n).2) g () = _
    rw [Pi.add_apply, Finsupp.add_apply, tallyAt_apply]
    simp only [and_true]

theorem dcell_iff (c d : Dev nD) (i j : Fin 17) : dcell c i = dcell d j ↔ c = d ∧ i = j :=
  ⟨fun h => ⟨congrArg (fun g : GSem nD τ sig => g.1.1) h, osem_inj (congrArg Prod.snd h)⟩, fun ⟨h, h'⟩ => by rw [h, h']⟩
theorem bar_iff (c d : Dev nD) : barCell c = barCell d ↔ c = d :=
  ⟨fun h => congrArg (fun g : GSem nD τ sig => g.1.1) h, fun h => by rw [h]⟩
theorem dcell_bar (c d : Dev nD) (i : Fin 17) : dcell c i = barCell d ↔ False :=
  ⟨fun h => osem_ne_bar i (congrArg Prod.snd h), False.elim⟩
theorem bar_dcell (c d : Dev nD) (i : Fin 17) : barCell c = dcell d i ↔ False :=
  ⟨fun h => osem_ne_bar i (congrArg Prod.snd h).symm, False.elim⟩

theorem owed_d (d c : Dev nD) (i : Fin 17) : owed d 12 (dcell c i) () =
    (if c = nb 3 d ∧ i = 15 then amt 15 else 0) + (if c = nb 2 d ∧ i = 13 then amt 13 else 0) + (if c = nb 1 d ∧ i = 11 then amt 11 else 0)
      + (if c = nb 0 d ∧ i = 9 then amt 9 else 0) + (if c = nb 0 d ∧ i = 8 then amt 8 else 0) + (if c = nb 0 d ∧ i = 5 then amt 5 else 0)
      + (if c = nb 0 d ∧ i = 3 then amt 3 else 0) + (if c = nb 0 d ∧ i = 2 then amt 2 else 0) := by
  rw [owed_at]
  simp only [Finset.sum_range_succ, Finset.sum_range_zero, due, dcell_iff, dcell_bar, if_false, Nat.zero_add, Nat.add_zero]

theorem owed_bar (d c : Dev nD) : owed d 12 (barCell c) () =
    (if c = nb 3 d then 1 else 0) + (if c = nb 2 d then 1 else 0) + (if c = nb 1 d then 1 else 0) + (if c = nb 0 d then 1 else 0) := by
  rw [owed_at]
  simp only [Finset.sum_range_succ, Finset.sum_range_zero, due, bar_iff, bar_dcell, if_false, Nat.zero_add, Nat.add_zero]

/-- Exactly one device is `c`'s partner `k`. -/
theorem sum_nb (k : Fin 4) (c : Dev nD) (a : ℕ) : (∑ d : Dev nD, if c = nb k d then a else 0) = a := by
  have h (d : Dev nD) : (c = nb k d) = (d = nb k c) := by
    refine propext ⟨fun h => ?_, fun h => ?_⟩
    · rw [h, nb_nb]
    · rw [h, nb_nb]
  simp only [h]
  rw [Finset.sum_ite_eq' Finset.univ (nb k c) fun _ => a, if_pos (Finset.mem_univ _)]

theorem units_of (g : GSem nD τ sig) (a : ℕ) (h : (∑ d : Dev nD, owed d 12 g ()) = a) :
    tallyOn g (launchCredit (Pipeline.owing fun d => owed d 12) 0 g) = (tallyAt g () a : CellTallies nD τ sig Unit) := by
  unfold tallyAt; refine congrArg _ (Finsupp.ext fun u => ?_); cases u
  rw [Pipeline.launchCredit_owing, Finsupp.single_eq_same, h]

theorem units_bar (c : Dev nD) : (∑ d : Dev nD, owed d 12 (barCell c) ()) = 4 := by
  simp only [owed_bar, Finset.sum_add_distrib, sum_nb]

/-- The cells a device is paid at by others. -/
abbrev paidAt : List (SemLoc sig) := [.reg barS, osem 2, osem 3, osem 5, osem 8, osem 9, osem 11, osem 13, osem 15]
theorem paidAt_nodup : paidAt.Nodup := by decide

theorem units_d (c : Dev nD) (i : Fin 17) (h : i = 2 ∨ i = 3 ∨ i = 5 ∨ i = 8 ∨ i = 9 ∨ i = 11 ∨ i = 13 ∨ i = 15) :
    (∑ d : Dev nD, owed d 12 (dcell c i) ()) = amt i := by
  simp only [owed_d]
  rcases h with rfl | rfl | rfl | rfl | rfl | rfl | rfl | rfl <;>
    simp only [Fin.reduceEq, and_false, and_true, if_false, Nat.add_zero, Nat.zero_add, sum_nb]

theorem creds (c : Dev nD) : (Pipeline.launchCred (fun d => owed d 12) c : sProp 𝕄) ⊢ crd (F := F) c := by
  unfold Pipeline.launchCred crd
  rw [← units_of _ _ (units_bar c), ← units_of _ _ (units_d c 2 (by simp)), ← units_of _ _ (units_d c 3 (by simp)), ← units_of _ _ (units_d c 5 (by simp)),
    ← units_of _ _ (units_d c 8 (by simp)), ← units_of _ _ (units_d c 9 (by simp)), ← units_of _ _ (units_d c 11 (by simp)), ← units_of _ _ (units_d c 13 (by simp)),
    ← units_of _ _ (units_d c 15 (by simp))]
  refine BIBase.Entails.trans (bigSep_subset (t := paidAt.toFinset) (Finset.subset_univ _)) ?_
  exact BIBase.Entails.of_eq (bigSep_eq_bigSepL paidAt paidAt_nodup _)

/-! ## Dealing the tokens -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The place of a token: copy semaphore `i`, or the barrier's unit `k`. -/
def tokAt (c : Dev nD) : Fin 4 ⊕ Fin 17 → GSem nD τ sig × ℕ × Fin 4
  | .inl k => (barCell c, 0, k)
  | .inr i => (dcell c i, 0, 0)

theorem tokAt_inj : Function.Injective fun p : Dev nD × (Fin 4 ⊕ Fin 17) => tokAt p.1 p.2 := by
  rintro ⟨c, a⟩ ⟨d, b⟩ h
  have hg := congrArg Prod.fst h
  rcases a with k | i <;> rcases b with k' | j <;> simp only [tokAt] at h hg
  · rw [(bar_iff c d).1 hg, show k = k' from congrArg (fun t : GSem nD τ sig × ℕ × Fin 4 => t.2.2) h]
  · exact ((bar_dcell c d j).1 hg).elim
  · exact ((dcell_bar c d i).1 hg).elim
  · obtain ⟨h1, h2⟩ := (dcell_iff c d i j).1 hg
    rw [h1, h2]

/-- Every payment's token. -/
def allToks : Finset (GSem nD τ sig × ℕ × Fin 4) := Finset.univ.map ⟨_, tokAt_inj⟩

theorem toks_dealt : bigSep allToks (fun x => (dutyTok ER x.1 x.2.1 x.2.2 : sProp 𝕄)) ⊢ bigSep Finset.univ fun c : Dev nD => toks (F := F) c := by
  have h1 : (bigSep Finset.univ fun c : Dev nD => bigSep Finset.univ fun k : Fin 4 => (dutyTok ER (barCell c) 0 k : sProp 𝕄))
      = bigSep Finset.univ fun c : Dev nD => bigSep Finset.univ fun k : Fin 4 => (dutyTok ER (barCell (nb k c)) 0 k : sProp 𝕄) := by
    rw [bigSep_univ_comm]
    rw [bigSep_congr (s := Finset.univ) fun k _ => bigSep_univ_equiv (nbE k) (fun c : Dev nD => (dutyTok ER (barCell c) 0 k : sProp 𝕄))]
    exact bigSep_univ_comm _
  have h2 : (bigSep Finset.univ fun c : Dev nD => bigSep Finset.univ fun i : Fin 17 => (dutyTok ER (dcell c i) 0 0 : sProp 𝕄))
      = bigSep Finset.univ fun c : Dev nD => bigSep Finset.univ fun i : Fin 17 => (dutyTok ER (dcell (payer i c) i) 0 0 : sProp 𝕄) := by
    rw [bigSep_univ_comm]
    rw [bigSep_congr (s := Finset.univ) fun i _ => bigSep_univ_equiv (payerE i) (fun c : Dev nD => (dutyTok ER (dcell c i) 0 0 : sProp 𝕄))]
    exact bigSep_univ_comm _
  refine BIBase.Entails.of_eq ?_
  unfold allToks toks
  rw [bigSep_map, bigSep_univ_prod, bigSep_sep', ← h1, ← h2, ← bigSep_sep']
  exact bigSep_congr fun c _ => bigSep_univ_sum _

/-- What the launch starts from. -/
def u₀ : UU :=
  (initOf (Pipeline.cells cfgs cellOf_inj) (Pipeline.launchToks cfgs cellOf_inj), launchOf barCells scCells allToks)

/-- The protocol's start, at one device until it is dealt. -/
def G (c : Dev nD) : sProp 𝕄 := if c = 0 then BI.own (ER (launchOf barCells scCells allToks)) else iprop(emp)

theorem G_all : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

variable (m : (ℓ : Loc nD τ sig) → Buf (Elt F) ℓ) (ρ : Dev nD → PrngReg)

/-- What rides along with device `c`'s buffers: before the call, and after it. -/
def Eside (n : Fin 2) (c : Dev nD) : sProp 𝕄 :=
  if n = 0 then iprop(Tk m c ∗ (∃ r, prngReg c r) ∗ Ow (F := F) c 12)
  else iprop(semVal (barCell c) 0 ∗ ∃ W, owes (c : Thread nD τ) (0 : CellTallies nD τ sig Unit) W)

abbrev T₀ (c : Dev nD) : sProp 𝕄 := iprop(StableHlo.held (c : Thread nD τ) (Pipeline.ucRefs τ sig) (V0 m c) ∗ Eside m 0 c)
abbrev Tₙ (c : Dev nD) : sProp 𝕄 := iprop(StableHlo.held (c : Thread nD τ) (Pipeline.ucRefs τ sig) (V2' m c) ∗ semVal (barCell c) 0)

theorem unscoped_eq : ∀ sm : SemLoc sig, sm.isScoped .tc = false → sm = .reg barS := by decide

theorem unscopedSems_eq (c : Dev nD) : (unscopedSems0 c : sProp 𝕄) ⊢ semVal (barCell c) 0 := by
  unfold unscopedSems0
  exact bigSep_elim (Finset.mem_filter.mpr ⟨Finset.mem_univ _, by decide⟩)

/-- The cells' counters and the protocol's start make every device's share. -/
theorem deal : iprop((bigSep Finset.univ fun c : Dev nD => (semVal (barCell c) 0 : sProp 𝕄)) ∗ (bigSep Finset.univ fun c : Dev nD => crd (F := F) c)
      ∗ BI.own (ER (launchOf barCells scCells allToks)))
    ⊢ (|={Set.univ}=> bigSep Finset.univ (Tk m) : sProp 𝕄) := by
  have hv : bigSep Finset.univ (fun c : Dev nD => (semVal (barCell c) 0 : sProp 𝕄)) = bigSep barCells (fun g => (semVal g 0 : sProp 𝕄)) :=
    (bigSep_map (s := Finset.univ) barEmb (Φ := fun g : GSem nD τ sig => (semVal g 0 : sProp 𝕄))).symm
  have ha : bigSep barCells (fun g => (atPos ER g 0 ∅ 0 : sProp 𝕄)) = bigSep Finset.univ (fun c : Dev nD => (atPos ER (barCell c) 0 ∅ 0 : sProp 𝕄)) :=
    bigSep_map (s := Finset.univ) barEmb (Φ := fun g : GSem nD τ sig => (atPos ER g 0 ∅ 0 : sProp 𝕄))
  have ho : bigSep scCells (fun g => (openTok ER g : sProp 𝕄))
      = bigSep Finset.univ (fun c : Dev nD => bigSep Finset.univ fun i : Fin 17 => (openTok ER (dcell c i) : sProp 𝕄)) := by
    rw [bigSep_map, bigSep_univ_prod]; rfl
  have hdev (K : GSem nD τ sig → ℕ) (c : Dev nD) :
      iprop(records (inOf m) K ∗ ((bigSep Finset.univ fun i : Fin 17 => openTok ER (dcell c i)) ∗ dealt (F := F) c)) ⊢ Tk m c := by
    unfold Tk
    iintro ⟨#HR, Ho, Hd⟩
    isplitl [Ho]
    · iexists K
      isplitr; · iexact HR
      iexact Ho
    iexact Hd
  rw [hv]
  iintro ⟨Hv, Hc, Hu⟩
  imod (Rounds.fund_launch ER (Rd (inOf m)) disjoint_cells (fun g _ h => h) allToks) $$ [Hv Hu] with ⟨%K, -, #Hinv, #Hr, Hat, Hopen, Htok⟩
  · isplitl [Hv]; · iexact Hv
    iexact Hu
  ihave Hat := (BIBase.Entails.of_eq ha) $$ Hat
  ihave Hopen := (BIBase.Entails.of_eq ho) $$ Hopen
  ihave Htok := (toks_dealt (F := F)) $$ Htok
  imodintro
  iapply (bigSep_with_persistent (R := records (inOf m) K)
    (Φ := fun c => iprop((bigSep Finset.univ fun i : Fin 17 => openTok ER (dcell c i)) ∗ dealt (F := F) c)) fun c _ => hdev K c)
  isplitr
  · unfold records
    isplitr; · iexact Hinv
    iexact Hr
  unfold dealt
  rw [bigSep_sep', bigSep_sep', bigSep_sep']
  isplitl [Hopen]; · iexact Hopen
  isplitl [Htok]; · iexact Htok
  isplitl [Hat]; · iexact Hat
  iexact Hc

theorem init :
    iprop((bigSep Finset.univ fun c : Dev nD => iprop(unscopedBufs c (fun b => m ((c : Thread nD τ).loc b)) ∗ unscopedSems0 c
          ∗ owes (c : Thread nD τ) (owed c 12) ∅ ∗ Pipeline.launchCred (fun d => owed d 12) c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed c 12) ∅ ∗ Pipeline.launchCred (fun d => owed d 12) c ∗ prngReg c (ρ c) ∗ G c)
      ⊢ (iprop((semVal (barCell c) 0 ∗ crd (F := F) c ∗ G c) ∗ StableHlo.held (c : Thread nD τ) (Pipeline.ucRefs τ sig) (V0 m c)
        ∗ (∃ r, prngReg c r) ∗ Ow (F := F) c 12) : sProp 𝕄) := by
    rw [show unscopedBufs c (fun b => m ((c : Thread nD τ).loc b)) = StableHlo.held (c : Thread nD τ) (Pipeline.ucRefs τ sig) (V0 m c) from
      Pipeline.unscopedBufs_held c (V0 m c)]
    unfold Ow
    iintro ⟨Hh, Hs, HO, Hc, Hp, HG⟩
    isplitl [Hs Hc HG]
    · isplitl [Hs]; · iapply (unscopedSems_eq c) $$ Hs
      isplitl [Hc]; · iapply (creds c) $$ Hc
      iexact HG
    isplitl [Hh]; · iexact Hh
    isplitl [Hp]; · iexists (ρ c); iexact Hp
    iexists ∅; iexact HO
  have hall : (bigSep Finset.univ fun c : Dev nD => iprop(unscopedBufs c (fun b => m ((c : Thread nD τ).loc b)) ∗ unscopedSems0 c
        ∗ owes (c : Thread nD τ) (owed c 12) ∅ ∗ Pipeline.launchCred (fun d => owed d 12) c ∗ prngReg c (ρ c) ∗ G c))
      ⊢ (iprop(((bigSep Finset.univ fun c : Dev nD => (semVal (barCell c) 0 : sProp 𝕄)) ∗ (bigSep Finset.univ fun c : Dev nD => crd (F := F) c)
          ∗ BI.own (ER (launchOf barCells scCells allToks)))
        ∗ (bigSep Finset.univ fun c : Dev nD => StableHlo.held (c : Thread nD τ) (Pipeline.ucRefs τ sig) (V0 m c))
        ∗ (bigSep Finset.univ fun c : Dev nD => iprop(∃ r, prngReg c r)) ∗ (bigSep Finset.univ fun c : Dev nD => Ow (F := F) c 12)) : sProp 𝕄) := by
    rw [← G_all, ← bigSep_sep', ← bigSep_sep', ← bigSep_sep', ← bigSep_sep', ← bigSep_sep']
    exact bigSep_mono fun c _ => hcore c
  iintro ⟨H, -⟩
  ihave H := hall $$ H
  icases H with ⟨⟨Hv, Hc, Hu⟩, Hh, Hp, HO⟩
  imod (deal m) $$ [Hv Hc Hu] with HT
  · isplitl [Hv]; · iexact Hv
    isplitl [Hc]; · iexact Hc
    iexact Hu
  imodintro
  rw [show (T₀ m : Dev nD → sProp 𝕄) = fun c : Dev nD => iprop(StableHlo.held (c : Thread nD τ) (Pipeline.ucRefs τ sig) (V0 m c)
      ∗ Tk m c ∗ (∃ r, prngReg c r) ∗ Ow (F := F) c 12) from funext fun c => by unfold T₀ Eside; rw [if_pos rfl],
    bigSep_sep', bigSep_sep', bigSep_sep']
  isplitl [Hh]; · iexact Hh
  isplitl [HT]; · iexact HT
  isplitl [Hp]; · iexact Hp
  iexact HO

/-! ## Into the call and out of it -/

theorem arr_sub : Pipeline.arrRefs (τ := τ) spec0 ⊆ Pipeline.ucRefs τ sig := Pipeline.arrRefs_sub_ucRefs spec0 winFacts0.arr_unscoped

theorem reg_pre (c : Dev nD) : iprop(StableHlo.held (c : Thread nD τ) (Pipeline.ucRefs τ sig) (V1 m c) ∗ Eside m 0 c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) Sr (V1 m c) ∗ emp) ∗ Tk m c ∗ ∃ Wd, owes (c : Thread nD τ) (0 + owed c 12) Wd)
  unfold Eside Ow
  rw [zero_add, if_pos rfl, StableHlo.held_sub_split (c : Thread nD τ) arr_sub (V1 m c)]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg0 m).post c
    ⊢ iprop(Tₙ m c ∗ ∃ W, owes (c : Thread nD τ) (0 : CellTallies nD τ sig Unit) W) := by
  show iprop(StableHlo.held (c.tc : Thread nD τ) (Pipeline.arrRefs (τ := τ) spec0) (V2' m c) ∗ (∃ r, prngReg c r)
    ∗ (StableHlo.held (c.tc : Thread nD τ) Sr (V2' m c) ∗ emp) ∗ semVal (barCell c) 0 ∗ ∃ Wd, owes (c : Thread nD τ) (0 : CellTallies nD τ sig Unit) Wd) ⊢ _
  unfold Tₙ
  rw [StableHlo.held_sub_split (c : Thread nD τ) arr_sub (V2' m c)]
  iintro ⟨Ha, -, ⟨Hr, -⟩, Hb, HO⟩
  isplitr [HO]
  · isplitl [Ha Hr]
    · isplitl [Ha]; · iexact Ha
      iexact Hr
    iexact Hb
  iexact HO

theorem arg_end (c : Dev nD) (r : Ref sig .tc) (h : (Proc.devRef .tc r : DevRef τ sig) ≠ Proc.devRef .tc main_v16) (h' : r ∉ hostOps0_W) :
    V2' m c r = m ((c : Thread nD τ).loc r) :=
  (V2'_of m c _ h).trans (V1_of m c r h')

/-- What the end of the run shows of a device. -/
def AtEnd (c : Dev nD) (s : (ℓ : Loc nD τ sig) → Buf (Elt F) ℓ) : Prop :=
  s ((c : Thread nD τ).loc main_v16) = (outV (inOf m) c : Buf (Elt F) ((c : Thread nD τ).loc main_v16))
    ∧ s ((c : Thread nD τ).loc main_arg0) = m ((c : Thread nD τ).loc main_arg0)
    ∧ s ((c : Thread nD τ).loc main_arg1) = m ((c : Thread nD τ).loc main_arg1)
    ∧ s ((c : Thread nD τ).loc main_arg2) = m ((c : Thread nD τ).loc main_arg2)
    ∧ s ((c : Thread nD τ).loc main_arg3) = m ((c : Thread nD τ).loc main_arg3)

set_option backward.isDefEq.respectTransparency.types false in
/-- From any memory, with every counter zero, the program ends on every device with the output at its value, the
    arguments as they were and every counter zero. -/
theorem run_main : θ_run defs (onTc (τ := τ) (main (F := F))) ⟨m, fun _ => 0, ρ⟩
    (fun r => (∀ c : Dev nD, AtEnd m c r.2.mem) ∧ r.2.sem = fun _ => 0) :=
  Pipeline.θ_run_regions_kit_dev_sems (pcfgs (F := F)) adm (pdats m) () cellOf_inj EP defs₀ 𝒱₀ L lv m ρ main
    (Gen.segs m 𝒱₀ L lv (Eside m) () (pdats m) (reg0 m))
    (fun c Q => by
      rewrite [main_chain c, Seg.run_eq_chain,
        show (Gen.segs m 𝒱₀ L lv (Eside m) () (pdats m) (reg0 m) c).map Seg.prog = [
          StableHlo.seq (hostOps0 c),
          Prog.lift (.customCall (Pipeline.entry 0) ()) ] from rfl]
      dsimp (config := { failIfUnchanged := false }) only
      exact .rfl)
    (fun c => by simp only [Gen.segs, Seg.pipes_host, Seg.pipes_region, Seg.pipes_nil]; decide)
    (O₀ := fun d => owed d 12) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := fun c => ⟨.rfl, reg_pre m c, reg_post m c⟩)
    (hinit := init m ρ)
    (QY := fun c s => AtEnd m c s.mem ∧ s.sem (barCell c) = 0)
    (hfin := fun c s' => by
      dsimp only [Tₙ]; unfold StableHlo.held
      iintro ⟨⟨Hh, Hb⟩, HSI⟩
      icombine HSI Hb gives %hb
      ihave Hr := (pointsTo_read_all (Pipeline.ucRefs τ sig) (fun b => ((c : Thread nD τ).1, b)) (V2' m c) s') $$ [Hh HSI]
      · isplitl [Hh] <;> iassumption
      icases Hr with ⟨%h, HSI⟩
      imodintro
      isplitr
      · ipureintro
        have mem (r : Ref sig .tc) (hr : ¬ (Proc.devRef (τ := τ) .tc r).isScoped = true) : Proc.devRef .tc r ∈ Pipeline.ucRefs τ sig :=
          Finset.mem_filter.mpr ⟨StableHlo.devRef_mem_tcRefs r, hr⟩
        exact ⟨⟨(h _ (mem main_v16 (by decide))).trans (Function.update_self _ _ _),
          (h _ (mem main_arg0 (by decide))).trans (arg_end m c main_arg0 (by decide) (by decide)),
          (h _ (mem main_arg1 (by decide))).trans (arg_end m c main_arg1 (by decide) (by decide)),
          (h _ (mem main_arg2 (by decide))).trans (arg_end m c main_arg2 (by decide) (by decide)),
          (h _ (mem main_arg3 (by decide))).trans (arg_end m c main_arg3 (by decide) (by decide))⟩, by simpa using hb⟩
      iexact HSI)
    (hQ := fun s h hs => ⟨fun c => (h c).1,
      sem_eq_zero hs fun c sm hsm => by
        obtain rfl := unscoped_eq sm hsm
        exact (h c).2⟩)

end Cert.Moe
-- ==== Proof.Row.lean ====
/-
# One row through one expert

A row `x` through the expert with first weights `u` and second weights `w` is `max (x u) 0 w`. A row replaced by
zeros goes to zeros, so that masking a row before the expert masks its result; and four masked results, of which
at most one mask holds, add up to the result of the mask that holds.
-/
module

public import proofs.«01_k».proof.Proof.Gen.KernelIdeal.Skeleton
public import Idealize.ShloMosaic.Lib.Pointwise

@[expose] public section

noncomputable section

namespace Cert.Moe

open Idealize.ShloMosaic

/-- One row through one expert, at the result's column `n`. -/
def ffn (x : Fin 512 → EReal) (u : Fin 512 → Fin 1024 → EReal) (w : Fin 1024 → Fin 512 → EReal) (n : Fin 512) : EReal :=
  ∑ f, max (∑ k, x k * u k f) 0 * w f n

/-- The result of the row through the expert if the mask holds, else zero. -/
def part (b : Prop) [Decidable b] (x : Fin 512 → EReal) (u : Fin 512 → Fin 1024 → EReal) (w : Fin 1024 → Fin 512 → EReal)
    (n : Fin 512) : EReal :=
  if b then ffn x u w n else 0

/-- Masking the row masks the result: with the row's products replaced by zeros where the mask fails, what comes
    out is the row's result where the mask holds and zero elsewhere. -/
theorem ffn_mask (p q : BitVec 32) (x : Fin 512 → EReal) (u : Fin 512 → Fin 1024 → EReal) (w : Fin 1024 → Fin 512 → EReal)
    (n : Fin 512) :
    ∑ f, max (∑ k, Scalar.select (IntOp.cmpi .eq p q) (x k * u k f) 0) 0 * w f n = part (p = q) x u w n := by
  unfold part
  by_cases h : p = q
  · rw [if_pos h]
    simp [h, IntOp.cmpi, Scalar.select, ffn]
  · rw [if_neg h]
    have hb : (p == q) = false := by simpa using h
    simp [hb, IntOp.cmpi, Scalar.select]

end Cert.Moe

end
-- ==== Proof.Block.lean ====
/-
# What one block computes

The kernel sends a block of rows through a device's two experts in one stretch of operations, printed three times:
for the device's own 128 rows, and for the upper and the lower 64 rows of its first partner. With exact numbers
each entry of the outcome is the sum of two masked results, one for each expert.
-/
module

public import proofs.«01_k».proof.Proof.Row

@[expose] public section

set_option maxRecDepth 16384

noncomputable section

namespace Cert.Moe

open Cert.KernelIdeal Cert.KernelIdeal.Gen
open Idealize.ShloMosaic

variable (u0 u1 : Vec Ideal S1x512x1024 .bf16) (w0 w1 : Vec Ideal S1x1024x512 .bf16)

/-- The two masked results of a row `x` assigned to `a`, at experts `p` and `q`. -/
def two (a p q : BitVec 32) (x : Fin 512 → EReal) (n : Fin 512) : EReal :=
  part (a = p) x (fun k f => u0 (ix3 0 k f)) (fun f n => w0 (ix3 0 f n)) n
    + part (a = q) x (fun k f => u1 (ix3 0 k f)) (fun f n => w1 (ix3 0 f n)) n

/-- The device's own rows. -/
theorem own_apply (e z : BitVec 32) (x : Vec Ideal S128x512 .bf16) (a : Vec Ideal S128 .i32) (i : Fin 128) (n : Fin 512) :
    k0_pay6 e (k0_pay2 x) (k0_pay3 (F := Ideal) a) (k0_pay4 (F := Ideal)) (k0_pay5 z x a u0) w0 u1 w1 (ix2 i n)
      = two u0 u1 w0 w1 (a (ix1 i)) (Scalar.addi (Scalar.muli 2#32 z) 0#32) (Scalar.addi e 1#32) (fun k => x (ix2 i k)) n := by
  unfold_payloads
  pointwise []
  exact congrArg₂ (· + ·) (ffn_mask _ _ (fun k => x (ix2 i k)) (fun k f => u0 (ix3 0 k f)) (fun f n => w0 (ix3 0 f n)) n)
    (ffn_mask _ _ (fun k => x (ix2 i k)) (fun k f => u1 (ix3 0 k f)) (fun f n => w1 (ix3 0 f n)) n)

/-- The upper half of the partner's rows. -/
theorem upper_apply (e : BitVec 32) (x : Vec Ideal S64x512 .bf16) (a : Vec Ideal S64 .i32) (i : Fin 64) (n : Fin 512) :
    k0_pay10 e x (k0_pay7 (F := Ideal) a) (k0_pay8 (F := Ideal)) (k0_pay9 e x a) u0 w0 u1 w1 (ix2 i n)
      = two u0 u1 w0 w1 (a (ix1 i)) (Scalar.addi e 0#32) (Scalar.addi e 1#32) (fun k => x (ix2 i k)) n := by
  unfold_payloads
  pointwise []
  exact congrArg₂ (· + ·) (ffn_mask _ _ (fun k => x (ix2 i k)) (fun k f => u0 (ix3 0 k f)) (fun f n => w0 (ix3 0 f n)) n)
    (ffn_mask _ _ (fun k => x (ix2 i k)) (fun k f => u1 (ix3 0 k f)) (fun f n => w1 (ix3 0 f n)) n)

/-- The lower half. -/
theorem lower_apply (e : BitVec 32) (x : Vec Ideal S64x512 .bf16) (a : Vec Ideal S64 .i32) (i : Fin 64) (n : Fin 512) :
    k0_pay14 e x (k0_pay11 (F := Ideal) a) (k0_pay12 (F := Ideal)) (k0_pay13 (F := Ideal) e a) (Scalar.ofBits .bf16 0x0000#16) u0 w0 u1 w1 (ix2 i n)
      = two u0 u1 w0 w1 (a (ix1 i)) (Scalar.addi e 0#32) (Scalar.addi e 1#32) (fun k => x (ix2 i k)) n := by
  unfold_payloads
  pointwise []
  exact congrArg₂ (· + ·) (ffn_mask _ _ (fun k => x (ix2 i k)) (fun k f => u0 (ix3 0 k f)) (fun f n => w0 (ix3 0 f n)) n)
    (ffn_mask _ _ (fun k => x (ix2 i k)) (fun k f => u1 (ix3 0 k f)) (fun f n => w1 (ix3 0 f n)) n)

/-- The two halves' sum, with exact numbers, is the sum. -/
theorem sum_apply (x y : Vec Ideal S128x512 .bf16) (i : Fin 128) (n : Fin 512) :
    k0_pay15 x y (ix2 i n) = (x (ix2 i n) + y (ix2 i n) : EReal) := by
  unfold_payloads
  pointwise []

/-- Widening the gathered rows changes no entry. -/
theorem wide_apply (x : Vec Ideal S512x512 .bf16) (i n : Fin 512) : k0_pay1 x (ix2 i n) = (x (ix2 i n) : EReal) := by
  unfold_payloads
  pointwise []

end Cert.Moe

end
-- ==== Proof.Reference.lean ====
/-
# What the reference computes

The reference goes through the four experts in turn and keeps, of each row, the result of the expert the row is
assigned to; a row assigned to no expert keeps its zero. Read at an entry this is the sum over the experts of the
masked results, at most one of which is not zero.
-/
module

public import proofs.«01_k».proof.Proof.Row
public import proofs.«01_k».proof.Proof.Gen.ReferenceIdeal.Run

@[expose] public section

set_option maxRecDepth 16384

noncomputable section

namespace Cert.Moe

open Cert.ReferenceIdeal Cert.ReferenceIdeal.Gen
open Idealize.ShloMosaic Idealize.ShloMosaic.TcCoe
open Idealize.SL.Sem

/-- The four whole arrays. -/
structure Whole where
  /-- The rows. -/
  x : Vec Ideal S1024x512 .bf16
  /-- The expert each row is assigned to. -/
  a : Vec Ideal S1024 .i32
  /-- The experts' first weights. -/
  u : Vec Ideal S4x512x1024 .bf16
  /-- The experts' second weights. -/
  w : Vec Ideal S4x1024x512 .bf16

namespace Whole

variable (G : Whole)

/-- Row `r` through expert `e` if it is assigned to it, else zero. -/
def term (r : Fin 1024) (n : Fin 512) (e : Fin 4) : EReal :=
  part (G.a (ix1 r) = BitVec.ofNat 32 e.val) (fun k => G.x (ix2 r k)) (fun k f => G.u (ix3 e k f)) (fun f n => G.w (ix3 e f n)) n

/-- The result: the sum over the experts. -/
def out : Vec Ideal S1024x512 .f32 := fun j => ∑ e, G.term (j 0) (j 1) e

/-- One turn of the reference's loop: expert `e`'s results kept where they are wanted, over what was there. -/
abbrev turn (e : ℕ) (hu : S4x512x1024.Slices ![e, 0, 0] S1x512x1024) (hw : S4x1024x512.Slices ![e, 0, 0] S1x1024x512)
    (old : FVec Ideal S1024x512 .f32) : FVec Ideal S1024x512 .f32 :=
  select (broadcastInDim S1024x512 ![0, 1] bcast_S1024x1_S1024x512_0_1 (broadcastInDim S1024x1 ![0] bcast_S1024_S1024x1_0
      (cmpi .eq G.a (broadcastInDim S1024 ![] bcast_S_S1024 (constantI S_ 32 (BitVec.ofNat 32 e))))))
    (Host.dotGeneral dot_S1024x1024_S1024x512_S1024x512_1_0_0_1_n_n none
      (maximumf
        (Host.dotGeneral dot_S1024x512_S512x1024_S1024x1024_1_0_0_1_n_n none (extf .f32 G.x bitsLt_bf16_f32)
          (shapeCast _ (extractStridedSlice S1x512x1024 ![e, 0, 0] (extf .f32 G.u bitsLt_bf16_f32) hu) shapeCasts_S1x512x1024_S512x1024))
        (broadcastInDim S1024x1024 ![] bcast_S_S1024x1024 (constant S_ .f32 0x00000000#32)))
      (shapeCast _ (extractStridedSlice S1x1024x512 ![e, 0, 0] (extf .f32 G.w bitsLt_bf16_f32) hw) shapeCasts_S1x1024x512_S1024x512))
    old

theorem turn_apply (e : Fin 4) (hu) (hw) (old : FVec Ideal S1024x512 .f32) (r : Fin 1024) (n : Fin 512) {v : EReal}
    (hv : old (ix2 r n) = v) :
    G.turn e.val hu hw old (ix2 r n) = if G.a (ix1 r) = BitVec.ofNat 32 e.val then G.term r n e else v := by
  subst hv
  pointwise [turn]
  by_cases h : G.a (ix1 r) = BitVec.ofNat 32 e.val
  · rw [if_pos h]
    simp [h, IntOp.cmpi, Scalar.select, term, part, ffn]
  · rw [if_neg h]
    have hb : (G.a (ix1 r) == BitVec.ofNat 32 e.val) = false := by simpa using h
    simp [hb, IntOp.cmpi, Scalar.select]

/-- Where the row is not assigned to the expert, the term is zero. -/
theorem term_zero {r : Fin 1024} {e : Fin 4} (h : G.a (ix1 r) ≠ BitVec.ofNat 32 e.val) (n : Fin 512) : G.term r n e = 0 :=
  if_neg h

/-- The four turns, from zeros, are the sum over the experts. -/
theorem turns_eq (h0u h1u h2u h3u h0w h1w h2w h3w) :
    G.turn 3 h3u h3w (G.turn 2 h2u h2w (G.turn 1 h1u h1w (G.turn 0 h0u h0w
      (broadcastInDim S1024x512 ![] bcast_S_S1024x512 (constant (F := Ideal) S_ .f32 0x00000000#32))))) = G.out := by
  funext j
  obtain ⟨r, n, rfl⟩ : ∃ (r : Fin 1024) (n : Fin 512), j = ix2 r n := ⟨j 0, j 1, eq_ix2 j⟩
  have hz : broadcastInDim S1024x512 ![] bcast_S_S1024x512 (constant (F := Ideal) S_ .f32 0x00000000#32) (ix2 r n) = (0 : EReal) := by
    pointwise []
  refine (G.turn_apply 3 h3u h3w _ r n (G.turn_apply 2 h2u h2w _ r n (G.turn_apply 1 h1u h1w _ r n
    (G.turn_apply 0 h0u h0w _ r n hz)))).trans ?_
  show _ = ∑ e, G.term r n e
  rw [Fin.sum_univ_four]
  have ne : ∀ {e e' : Fin 4}, e ≠ e' → G.a (ix1 r) = BitVec.ofNat 32 e.val → G.term r n e' = 0 := fun {e e'} hne h =>
    G.term_zero (fun h' => hne ((by decide : ∀ e e' : Fin 4, BitVec.ofNat 32 e.val = BitVec.ofNat 32 e'.val → e = e') e e'
      (h.symm.trans h'))) n
  split
  · next h => rw [ne (e' := 0) (by decide) h, ne (e' := 1) (by decide) h, ne (e' := 2) (by decide) h]; simp
  split
  · next h => rw [ne (e' := 0) (by decide) h, ne (e' := 1) (by decide) h, ne (e' := 3) (by decide) h]; simp
  split
  · next h => rw [ne (e' := 0) (by decide) h, ne (e' := 2) (by decide) h, ne (e' := 3) (by decide) h]; simp
  split
  · next h => rw [ne (e' := 1) (by decide) h, ne (e' := 2) (by decide) h, ne (e' := 3) (by decide) h]; simp
  · next h3 h2 h1 h0 => rw [G.term_zero h0, G.term_zero h1, G.term_zero h2, G.term_zero h3]; simp

end Whole

/-- The whole arrays in the reference's memory. -/
def wholeOf (m : (ℓ : Loc nD τ sig) → Buf (Elt Ideal) ℓ) : Whole where
  x := m (((0 : Dev nD).tc : Thread nD τ).loc main_arg0)
  a := m (((0 : Dev nD).tc : Thread nD τ).loc main_arg1)
  u := m (((0 : Dev nD).tc : Thread nD τ).loc main_arg2)
  w := m (((0 : Dev nD).tc : Thread nD τ).loc main_arg3)

/-- The reference's run, its result at the sum over the experts. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r =>
      r.2.mem (((0 : Dev nD).tc : Thread nD τ).loc main_v51) = (wholeOf m).out
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3) :=
  (θ_run defs _ _).mono (fun _ h => ⟨(h 0).1.trans ((wholeOf m).turns_eq slices_S4x512x1024_S1x512x1024_0_0_0
      slices_S4x512x1024_S1x512x1024_1_0_0 slices_S4x512x1024_S1x512x1024_2_0_0 slices_S4x512x1024_S1x512x1024_3_0_0
      slices_S4x1024x512_S1x1024x512_0_0_0 slices_S4x1024x512_S1x1024x512_1_0_0 slices_S4x1024x512_S1x1024x512_2_0_0
      slices_S4x1024x512_S1x1024x512_3_0_0), (h 0).2⟩)
    (Cert.ReferenceIdeal.Value.run (F := Ideal) m ρ)

end Cert.Moe

end
-- ==== Proof.Whole.lean ====
/-
# What each device's arrays hold

Device `c` holds, of the whole arrays, the half of the rows and the two experts its `z` names, and of the rows
its quarter. With exact numbers every array it computes is then read off the whole arrays: its own experts on its
rows, its experts on its first partner's rows, its rows through all four experts, and the gathered result.
-/
module

public import proofs.«01_k».proof.Proof.Vals
public import proofs.«01_k».proof.Proof.Block
public import proofs.«01_k».proof.Proof.Reference

@[expose] public section

set_option maxRecDepth 16384

noncomputable section

namespace Cert.Moe

open Cert.KernelIdeal Cert.KernelIdeal.Gen
open Idealize.ShloMosaic

/-- Row `i` of the half device `c` holds, in the whole array. -/
abbrev hrow (c : Dev nD) (i : Fin 512) : Fin 1024 := ⟨512 * (c.val % 2) + i.val, by omega⟩
/-- Row `i` of device `c`'s quarter, in the half. -/
abbrev qrow (c : Dev nD) (i : Fin 128) : Fin 512 := ⟨128 * (c.val / 2) + i.val, by have := c.isLt; simp only [nD] at this; omega⟩
/-- Row `i` of device `c`'s quarter, in the whole array. -/
abbrev row (c : Dev nD) (i : Fin 128) : Fin 1024 := hrow c (qrow c i)
/-- Expert `e` of device `c`, among the four. -/
abbrev expert (c : Dev nD) (e : Fin 2) : Fin 4 := ⟨2 * (c.val % 2) + e.val, by omega⟩

/-- The devices' inputs are their parts of the whole arrays. -/
structure Fits (I : Dev nD → In Ideal) (G : Whole) : Prop where
  x : ∀ (c : Dev nD) (i : Fin 128) (k : Fin 512), (I c).x (ix2 i k) = G.x (ix2 (row c i) k)
  a : ∀ (c : Dev nD) (i : Fin 512), (I c).a (ix1 i) = G.a (ix1 (hrow c i))
  u : ∀ (c : Dev nD) (e : Fin 2) (k : Fin 512) (f : Fin 1024), (I c).u (ix3 e k f) = G.u (ix3 (expert c e) k f)
  w : ∀ (c : Dev nD) (e : Fin 2) (f : Fin 1024) (n : Fin 512), (I c).w (ix3 e f n) = G.w (ix3 (expert c e) f n)

/-! ## The experts' numbers, as the kernel computes them -/

theorem first_own : ∀ c : Dev nD, Scalar.addi (Scalar.muli 2#32 (zw c)) 0#32 = BitVec.ofNat 32 (expert c 0).val := by decide +kernel
theorem first_eq : ∀ c : Dev nD, Scalar.addi (ew c) 0#32 = BitVec.ofNat 32 (expert c 0).val := by decide +kernel
theorem second_eq : ∀ c : Dev nD, Scalar.addi (ew c) 1#32 = BitVec.ofNat 32 (expert c 1).val := by decide +kernel

/-! ## Reading the loads -/

section Loads
variable (J : In Ideal)

theorem u0_apply (k : Fin 512) (f : Fin 1024) : J.u0 (ix3 0 k f) = J.u (ix3 0 k f) := by
  refine congrArg J.u (funext fun b => Fin.ext ?_)
  fin_cases b <;> simp [LoadRect.idx, off1_eq, off2_eq]
theorem u1_apply (k : Fin 512) (f : Fin 1024) : J.u1 (ix3 0 k f) = J.u (ix3 1 k f) := by
  refine congrArg J.u (funext fun b => Fin.ext ?_)
  fin_cases b <;> simp [LoadRect.idx, off1_eq, off2_eq]
theorem w0_apply (f : Fin 1024) (n : Fin 512) : J.w0 (ix3 0 f n) = J.w (ix3 0 f n) := by
  refine congrArg J.w (funext fun b => Fin.ext ?_)
  fin_cases b <;> simp [LoadRect.idx, off1_eq, off2_eq]
theorem w1_apply (f : Fin 1024) (n : Fin 512) : J.w1 (ix3 0 f n) = J.w (ix3 1 f n) := by
  refine congrArg J.w (funext fun b => Fin.ext ?_)
  fin_cases b <;> simp [LoadRect.idx, off1_eq, off2_eq]
theorem xL_apply (i : Fin 128) (k : Fin 512) : J.xL (ix2 i k) = J.x (ix2 i k) := by
  refine congrArg J.x (funext fun b => Fin.ext ?_)
  fin_cases b <;> simp [LoadRect.idx, off1_eq, off2_eq]
theorem x0_apply (i : Fin 64) (k : Fin 512) : J.x0 (ix2 i k) = J.x (ix2 ⟨i.val, by omega⟩ k) := by
  refine congrArg J.x (funext fun b => Fin.ext ?_)
  fin_cases b <;> simp [LoadRect.idx, off1_eq, off2_eq]
theorem x1_apply (i : Fin 64) (k : Fin 512) : J.x1 (ix2 i k) = J.x (ix2 ⟨64 + i.val, by omega⟩ k) := by
  refine congrArg J.x (funext fun b => Fin.ext ?_)
  fin_cases b <;> simp [LoadRect.idx, off1_eq, off2_eq]
theorem aq_apply (c : Dev nD) (i : Fin 128) : J.aq c (ix1 i) = J.a (ix1 (qrow c i)) := by
  refine congrArg J.a (funext fun b => Fin.ext ?_)
  fin_cases b <;> simp [LoadRect.idx, off1_eq, off2_eq]
theorem aL_apply (c : Dev nD) (i : Fin 128) : J.aL c (ix1 i) = J.a (ix1 (qrow c i)) := by
  refine congrArg J.a (funext fun b => Fin.ext ?_)
  fin_cases b <;> simp [LoadRect.idx, off1_eq, off2_eq]
theorem a0_apply (c : Dev nD) (i : Fin 64) : J.a0 c (ix1 i) = J.a (ix1 (qrow c ⟨i.val, by omega⟩)) := by
  refine congrArg J.a (funext fun b => Fin.ext ?_)
  fin_cases b <;> simp [LoadRect.idx, off1_eq, off2_eq]
theorem a1_apply (c : Dev nD) (i : Fin 64) : J.a1 c (ix1 i) = J.a (ix1 (qrow c ⟨64 + i.val, by omega⟩)) := by
  refine congrArg J.a (funext fun b => Fin.ext ?_)
  fin_cases b <;> simp [LoadRect.idx, off1_eq, off2_eq]
end Loads

/-! ## The arrays -/

section Arrays

variable {I : Dev nD → In Ideal} {G : Whole} (h : Fits I G)
include h

/-- A block's entry, where its rows and assignments are those of row `r` and the experts are device `c`'s. -/
theorem two_eq (c : Dev nD) (r : Fin 1024) (n : Fin 512) {a p q : BitVec 32} {x : Fin 512 → EReal} (ha : a = G.a (ix1 r))
    (hp : p = BitVec.ofNat 32 (expert c 0).val) (hq : q = BitVec.ofNat 32 (expert c 1).val) (hx : ∀ k, x k = G.x (ix2 r k)) :
    two (I c).u0 (I c).u1 (I c).w0 (I c).w1 a p q x n = G.term r n (expert c 0) + G.term r n (expert c 1) := by
  subst ha hp hq
  obtain rfl : x = fun k => G.x (ix2 r k) := funext hx
  unfold two Whole.term
  simp only [u0_apply, u1_apply, w0_apply, w1_apply, h.u, h.w]

/-- Device `c`'s experts on its own rows. -/
theorem own0_eq (c : Dev nD) (i : Fin 128) (n : Fin 512) :
    own0 I c (ix2 i n) = (G.term (row c i) n (expert c 0) + G.term (row c i) n (expert c 1) : EReal) := by
  unfold own0
  refine (own_apply _ _ _ _ (ew c) (zw c) _ _ i n).trans (two_eq h c (row c i) n ?_ (first_own c) (second_eq c) fun k => ?_)
  · rw [aL_apply, h.a]
  · rw [xL_apply, h.x]

/-- Its experts on the upper half of its first partner's rows. -/
theorem ys0_eq (c : Dev nD) (i : Fin 64) (n : Fin 512) :
    ys0 I c (ix2 i n) = (G.term (row (nb 0 c) ⟨i.val, by omega⟩) n (expert c 0) + G.term (row (nb 0 c) ⟨i.val, by omega⟩) n (expert c 1) : EReal) := by
  unfold ys0
  refine (upper_apply _ _ _ _ (ew c) _ _ i n).trans (two_eq h c (row (nb 0 c) ⟨i.val, by omega⟩) n ?_ (first_eq c) (second_eq c) fun k => ?_)
  · rw [a0_apply, h.a]
  · rw [x0_apply, h.x]

/-- The lower half. -/
theorem ys1_eq (c : Dev nD) (i : Fin 64) (n : Fin 512) :
    ys1 I c (ix2 i n) = (G.term (row (nb 0 c) ⟨64 + i.val, by omega⟩) n (expert c 0) + G.term (row (nb 0 c) ⟨64 + i.val, by omega⟩) n (expert c 1) : EReal) := by
  unfold ys1
  refine (lower_apply _ _ _ _ (ew c) _ _ i n).trans (two_eq h c (row (nb 0 c) ⟨64 + i.val, by omega⟩) n ?_ (first_eq c) (second_eq c) fun k => ?_)
  · rw [a1_apply, h.a]
  · rw [x1_apply, h.x]

/-- What the first partner's experts make of device `c`'s rows. -/
theorem yr_eq (c : Dev nD) (i : Fin 128) (n : Fin 512) :
    yr I c (ix2 i n) = (G.term (row c i) n (expert (nb 0 c) 0) + G.term (row c i) n (expert (nb 0 c) 1) : EReal) := by
  unfold yr
  by_cases hi : i.val < 64
  · have e : (ix2 i n : S128x512.Idx) = (hR 0).emb (ix2 (⟨i.val, hi⟩ : Fin 64) n) := by
      funext b; apply Fin.ext; fin_cases b <;> simp
    rw [e, glue_emb hR hR_dis (ysR I (nb 0 c)) 0]
    refine (ys0_eq h (nb 0 c) ⟨i.val, hi⟩ n).trans ?_
    rw [nb_nb]
  · have e : (ix2 i n : S128x512.Idx) = (hR 1).emb (ix2 (⟨i.val - 64, by omega⟩ : Fin 64) n) := by
      funext b; apply Fin.ext; fin_cases b <;> simp; omega
    rw [e, glue_emb hR hR_dis (ysR I (nb 0 c)) 1]
    refine (ys1_eq h (nb 0 c) ⟨i.val - 64, by omega⟩ n).trans ?_
    rw [nb_nb, show (⟨64 + (⟨i.val - 64, by omega⟩ : Fin 64).val, by omega⟩ : Fin 128) = i from Fin.ext (by show 64 + (i.val - 64) = i.val; omega)]

omit h in
/-- A device's two experts and its first partner's are the four. -/
theorem four_experts (c : Dev nD) (g : Fin 4 → EReal) :
    g (expert c 0) + g (expert c 1) + (g (expert (nb 0 c) 0) + g (expert (nb 0 c) 1)) = ∑ e, g e := by
  rw [Fin.sum_univ_four]
  rcases (by decide +kernel : ∀ c : Dev nD, (expert c 0 = 0 ∧ expert c 1 = 1 ∧ expert (nb 0 c) 0 = 2 ∧ expert (nb 0 c) 1 = 3)
    ∨ (expert c 0 = 2 ∧ expert c 1 = 3 ∧ expert (nb 0 c) 0 = 0 ∧ expert (nb 0 c) 1 = 1)) c with ⟨h0, h1, h2, h3⟩ | ⟨h0, h1, h2, h3⟩
  · rw [h0, h1, h2, h3]; simp only [add_assoc]
  · rw [h0, h1, h2, h3, add_comm (g 2 + g 3)]; simp only [add_assoc]

/-- Device `c`'s rows through all experts. -/
theorem sq_eq (c : Dev nD) (i : Fin 128) (n : Fin 512) : sq I c (ix2 i n) = (∑ e, G.term (row c i) n e : EReal) := by
  unfold sq
  refine (sum_apply _ _ i n).trans ?_
  have e : (Rect.unit (s := S128x512) ![0, 0] S128x512.size inb_S128x512_S128x512_0_0).toLoadRect.idx (ix2 i n) = ix2 i n := by
    funext b; apply Fin.ext; fin_cases b <;> simp [LoadRect.idx]
  rw [e, own0_eq h, yr_eq h]
  exact four_experts c fun e => G.term (row c i) n e

/-- The gathered rows. -/
theorem sAll_eq (c : Dev nD) (i n : Fin 512) : sAll I c (ix2 i n) = (∑ e, G.term (hrow c i) n e : EReal) := by
  unfold sAll
  obtain ⟨k, hk⟩ := quarter_who c ⟨i.val / 128, by omega⟩
  have hk : (who k c).val / 2 = i.val / 128 := hk
  have hz : (who k c).val % 2 = c.val % 2 := (by decide +kernel : ∀ (k : Fin 4) (c : Dev nD), (who k c).val % 2 = c.val % 2) k c
  have e : (ix2 i n : S512x512.Idx) = (qR (who k c)).emb (ix2 (⟨i.val % 128, by omega⟩ : Fin 128) n) := by
    funext b; apply Fin.ext; fin_cases b <;> simp [off4_eq]; omega
  rw [e, glue_emb (fun i => qR (who i c)) (qR_dis c) (fun i => sq I (who i c)) k]
  refine (sq_eq h (who k c) ⟨i.val % 128, by omega⟩ n).trans ?_
  rw [show row (who k c) ⟨i.val % 128, by omega⟩ = hrow c i from Fin.ext (by
    show 512 * ((who k c).val % 2) + (128 * ((who k c).val / 2) + i.val % 128) = 512 * (c.val % 2) + i.val
    omega)]

/-- The result: device `c`'s half of the sum over the experts. -/
theorem outV_eq (c : Dev nD) (i n : Fin 512) : outV I c (ix2 i n) = (G.out (ix2 (hrow c i) n) : EReal) := by
  unfold outV
  refine (wide_apply _ i n).trans ?_
  have e : (Rect.unit (s := S512x512) ![0, 0] S512x512.size inb_S512x512_S512x512_0_0).toLoadRect.idx (ix2 i n) = ix2 i n := by
    funext b; apply Fin.ext; fin_cases b <;> simp [LoadRect.idx]
  rw [e]
  exact sAll_eq h c i n

end Arrays

end Cert.Moe

end
-- ==== Proof.Inputs.lean ====
/-
# What the call takes

The host cuts the rows of the device's quarter out of its half; the call's windows fetch those rows and the other
three arrays whole. Where every device holds its part of the whole arrays, the call's inputs fit them.
-/
module

public import proofs.«01_k».proof.Proof.Region
public import proofs.«01_k».proof.Proof.Whole
public import Idealize.ShloMosaic.Lib.LayoutAt
public import Idealize.ShloMosaic.Lib.DynamicIndex

@[expose] public section

set_option maxRecDepth 16384

noncomputable section

namespace Cert.Moe

open Cert.KernelIdeal Cert.KernelIdeal.Gen
open Idealize.ShloMosaic Idealize.ShloMosaic.TcCoe

variable {F : FTy → Type} [FloatOps F]
variable (m : (ℓ : Loc nD τ sig) → Buf (Elt F) ℓ)

/-- The row the host cuts at, as it computes it. -/
abbrev cut (c : Dev nD) : BitVec 32 :=
  Scalar.muli (Scalar.addi (Scalar.muli 2#32 (IntOp.remui .host (IntOp.divui .host (Dev.word c) 4#32) 2#32))
    (IntOp.remui .host (IntOp.divui .host (Dev.word c) 2#32) 2#32)) 128#32

theorem cut_eq : ∀ c : Dev nD,
    (Scalar.select (IntOp.cmpi .slt (cut c) 0#32) (Scalar.addi (cut c) 512#32) (cut c)).toInt = ((128 * (c.val / 2) : ℕ) : ℤ) := by
  decide +kernel

/-- The rows the host cuts out start at the device's quarter. -/
theorem V1_rows (c : Dev nD) (h : S512x512.Slices ![128 * (c.val / 2), 0] S128x512) :
    (V1 m c main_v15 : S128x512.Idx → Elt F .bf16)
      = extractStridedSlice S128x512 ![128 * (c.val / 2), 0] (m ((c.tc : Thread nD τ).loc main_arg0) : S512x512.Idx → Elt F .bf16) h := by
  show StableHlo.after (hostOps0 c) (V0 m c) _ = _
  simp only [hostOps0]
  after_results_simp
  refine Host.dynamicSlice_eq_extractStridedSlice S128x512 _ _ _ sliceFits_S512x512_S128x512 h ?_
  refine Fin.forall_fin_two.mpr ⟨?_, ?_⟩
  · dsimp only [Matrix.cons_val_zero, cast_eq]
    after_results_simp
    exact cut_eq c
  · dsimp only [Matrix.cons_val_one, Matrix.cons_val_zero, cast_eq]
    after_results_simp
    rfl

/-! ## What the windows fetch: their arrays whole -/

theorem fetched_x (f : main_v15.ty.Contents (Elt F)) : (win0_0.blk t0_0).view.read (Elt F) f = f :=
  Memref.read_access_unit_zero (Elt F) main_v15 (funext fun _ => Nat.zero_mul _)
    (fun a => le_of_eq (by show 0 * _ + _ = _; rw [Nat.zero_mul, Nat.zero_add])) f
theorem fetched_a (f : main_arg1.ty.Contents (Elt F)) : (win0_1.blk t0_0).view.read (Elt F) f = f :=
  Memref.read_access_unit_zero (Elt F) main_arg1 (funext fun _ => Nat.zero_mul _)
    (fun a => le_of_eq (by show 0 * _ + _ = _; rw [Nat.zero_mul, Nat.zero_add])) f
theorem fetched_u (f : main_arg2.ty.Contents (Elt F)) : (win0_2.blk t0_0).view.read (Elt F) f = f :=
  Memref.read_access_unit_zero (Elt F) main_arg2 (funext fun _ => Nat.zero_mul _)
    (fun a => le_of_eq (by show 0 * _ + _ = _; rw [Nat.zero_mul, Nat.zero_add])) f
theorem fetched_w (f : main_arg3.ty.Contents (Elt F)) : (win0_3.blk t0_0).view.read (Elt F) f = f :=
  Memref.read_access_unit_zero (Elt F) main_arg3 (funext fun _ => Nat.zero_mul _)
    (fun a => le_of_eq (by show 0 * _ + _ = _; rw [Nat.zero_mul, Nat.zero_add])) f

theorem V1_arg (c : Dev nD) (b : Ref sig .tc) (h : b ∉ hostOps0_W) : V1 m c b = m ((c.tc : Thread nD τ).loc b) :=
  V1_of m c b h

/-! ## A device's part of a whole array -/

/-- Device `c` holds the parts its last mesh coordinate names. -/
theorem part_of : ∀ c : Dev nD, Layout.meshLin [2, 2, 2] c.val [2] = c.val % 2 := by decide +kernel

theorem block_x {α : Type} (c : Dev nD) (X : Cert.ReferenceIdeal.S1024x512.Idx → α) (i k : Fin 512) :
    (Layout.blockN ⟨2, ![512, 512]⟩ ⟨2, ![1024, 512]⟩ (Layout.meshBlock [2, 2, 2] ![[2], []] c) X) (ix2 i k) = X (ix2 (hrow c i) k) := by
  rw [Layout.blockN_apply]
  refine congrArg X (funext fun b => Fin.ext ?_)
  fin_cases b <;> simp [Layout.TilesN.idx_val, part_of, Layout.meshLin, Nat.mul_comm]

theorem block_a {α : Type} (c : Dev nD) (X : Cert.ReferenceIdeal.S1024.Idx → α) (i : Fin 512) :
    (Layout.blockN ⟨1, ![512]⟩ ⟨1, ![1024]⟩ (Layout.meshBlock [2, 2, 2] ![[2]] c) X) (ix1 i) = X (ix1 (hrow c i)) := by
  rw [Layout.blockN_apply]
  refine congrArg X (funext fun b => Fin.ext ?_)
  fin_cases b; simp [Layout.TilesN.idx_val, part_of, Nat.mul_comm]

theorem block_u {α : Type} (c : Dev nD) (X : Cert.ReferenceIdeal.S4x512x1024.Idx → α) (e : Fin 2) (k : Fin 512) (f : Fin 1024) :
    (Layout.blockN ⟨3, ![2, 512, 1024]⟩ ⟨3, ![4, 512, 1024]⟩ (Layout.meshBlock [2, 2, 2] ![[2], [], []] c) X) (ix3 e k f)
      = X (ix3 (expert c e) k f) := by
  rw [Layout.blockN_apply]
  refine congrArg X (funext fun b => Fin.ext ?_)
  fin_cases b <;> simp [Layout.TilesN.idx_val, part_of, Layout.meshLin, Nat.mul_comm]

theorem block_w {α : Type} (c : Dev nD) (X : Cert.ReferenceIdeal.S4x1024x512.Idx → α) (e : Fin 2) (f : Fin 1024) (n : Fin 512) :
    (Layout.blockN ⟨3, ![2, 1024, 512]⟩ ⟨3, ![4, 1024, 512]⟩ (Layout.meshBlock [2, 2, 2] ![[2], [], []] c) X) (ix3 e f n)
      = X (ix3 (expert c e) f n) := by
  rw [Layout.blockN_apply]
  refine congrArg X (funext fun b => Fin.ext ?_)
  fin_cases b <;> simp [Layout.TilesN.idx_val, part_of, Layout.meshLin, Nat.mul_comm]

/-! ## The inputs fit -/

section Fit

variable (m : (ℓ : Loc nD τ sig) → Buf (Elt Ideal) ℓ) (G : Whole)

/-- Every device's argument buffers hold its parts of the whole arrays. -/
def Agree : Prop :=
  ∀ c : Dev nD,
    m ((c.tc : Thread nD τ).loc main_arg0) = Layout.blockN ⟨2, ![512, 512]⟩ ⟨2, ![1024, 512]⟩ (Layout.meshBlock [2, 2, 2] ![[2], []] c) G.x
    ∧ m ((c.tc : Thread nD τ).loc main_arg1) = Layout.blockN ⟨1, ![512]⟩ ⟨1, ![1024]⟩ (Layout.meshBlock [2, 2, 2] ![[2]] c) G.a
    ∧ m ((c.tc : Thread nD τ).loc main_arg2) = Layout.blockN ⟨3, ![2, 512, 1024]⟩ ⟨3, ![4, 512, 1024]⟩ (Layout.meshBlock [2, 2, 2] ![[2], [], []] c) G.u
    ∧ m ((c.tc : Thread nD τ).loc main_arg3) = Layout.blockN ⟨3, ![2, 1024, 512]⟩ ⟨3, ![4, 1024, 512]⟩ (Layout.meshBlock [2, 2, 2] ![[2], [], []] c) G.w

theorem quarter_slices : ∀ c : Dev nD, S512x512.Slices ![128 * (c.val / 2), 0] S128x512 := by decide +kernel

theorem fits (h : Agree m G) : Fits (inOf m) G where
  x c i k := by
    have e : (inOf m c).x = extractStridedSlice S128x512 ![128 * (c.val / 2), 0]
        (m ((c.tc : Thread nD τ).loc main_arg0) : S512x512.Idx → Elt Ideal .bf16) (quarter_slices c) :=
      (fetched_x (V1 m c main_v15)).trans (V1_rows m c _)
    rw [e, (h c).1]
    refine Eq.trans ?_ (block_x c G.x (qrow c i) k)
    refine congrArg (Layout.blockN ⟨2, ![512, 512]⟩ ⟨2, ![1024, 512]⟩ (Layout.meshBlock [2, 2, 2] ![[2], []] c) G.x) (funext fun b => Fin.ext ?_)
    fin_cases b <;> simp
  a c i := by
    have e : (inOf m c).a = (m ((c.tc : Thread nD τ).loc main_arg1) : S512.Idx → Elt Ideal .i32) :=
      (fetched_a (V1 m c main_arg1)).trans (V1_arg m c main_arg1 (by decide))
    rw [e, (h c).2.1]
    exact block_a c G.a i
  u c j k f := by
    have e : (inOf m c).u = (m ((c.tc : Thread nD τ).loc main_arg2) : S2x512x1024.Idx → Elt Ideal .bf16) :=
      (fetched_u (V1 m c main_arg2)).trans (V1_arg m c main_arg2 (by decide))
    rw [e, (h c).2.2.1]
    exact block_u c G.u j k f
  w c j f n := by
    have e : (inOf m c).w = (m ((c.tc : Thread nD τ).loc main_arg3) : S2x1024x512.Idx → Elt Ideal .bf16) :=
      (fetched_w (V1 m c main_arg3)).trans (V1_arg m c main_arg3 (by decide))
    rw [e, (h c).2.2.2]
    exact block_w c G.w j f n

/-- So the result on device `c` is its part of the sum over the experts. -/
theorem result_eq (h : Agree m G) (c : Dev nD) :
    outV (inOf m) c = Layout.blockN ⟨2, ![512, 512]⟩ ⟨2, ![1024, 512]⟩ (Layout.meshBlock [2, 2, 2] ![[2], []] c) G.out := by
  funext j
  obtain ⟨i, n, rfl⟩ : ∃ i n : Fin 512, j = ix2 i n := ⟨j 0, j 1, eq_ix2 j⟩
  exact (outV_eq (fits m G h) c i n).trans (block_x c G.out i n).symm

end Fit

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Inputs
public import Idealize.ShloMosaic.Adequacy
public import Idealize.ShloMosaic.Init

@[expose] public section

noncomputable section

namespace Cert.Proof

open Idealize.ShloMosaic Idealize.SL.Sem Cert.Kernel

/-- The kernel as compiled and its idealization are one text: they run the same body, -/
theorem body_same : Cert.Kernel.defs₀ (F := Bits) = Cert.KernelIdeal.defs₀ (F := Bits) := by
  refine congrArg Defs.onTc (funext fun l => funext fun a => ?_)
  match l, a with
  | 0, (_, _) => rfl

/-- from the same table. -/
theorem defs_same : Cert.Kernel.defs (F := Bits) = Cert.KernelIdeal.defs (F := Bits) :=
  congrArg (Pipeline.defs Cert.KernelIdeal.pcfgs) body_same

/-- The kernel as compiled ends on every execution, its arguments unchanged and its counters at zero. -/
theorem frame_kernel : Cert.quiescent_Kernel (hKernel := Cert.Kernel.Gen.facts) := fun m ρ _ => by
  rw [defs_same]
  exact (θ_run (Cert.KernelIdeal.defs (F := Bits)) _ _).mono (fun _ h => ⟨fun c => (h.1 c).2, h.2⟩) (Cert.Moe.run_main (F := Bits) m ρ)

/-- So does its idealization. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.Moe.run_main (F := Ideal) m ρ)

/-- And the reference, which has no counter. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- With exact numbers, each device's result is its half of the reference's. -/
theorem equal : Cert.algebraic_KernelIdeal_ReferenceIdeal (hKernelIdeal := Cert.KernelIdeal.Gen.facts)
    (hReferenceIdeal := Cert.ReferenceIdeal.Gen.facts) := fun m ρ m' ρ' _ hagree =>
  ⟨(Cert.Moe.wholeOf m').out,
    (θ_run Cert.KernelIdeal.defs _ _).mono
      (fun _ h c => ⟨(h.1 c).1.trans (Cert.Moe.result_eq m (Cert.Moe.wholeOf m') hagree c), (h.1 c).2⟩)
      (Cert.Moe.run_main (F := Ideal) m ρ),
    Cert.Moe.run_reference m' ρ'⟩

theorem claim : Cert.Claim := ⟨Cert.Kernel.Gen.facts, Cert.KernelIdeal.Gen.facts, Cert.ReferenceIdeal.Gen.facts,
  frame_kernel, frame_ideal, frame_reference, trivial, equal⟩

end Cert.Proof

end
